-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_18) = v0 c
          ∧ r.2.mem ((c.tc : Thread Cert.ReferenceIdeal.nD Cert.ReferenceIdeal.τ).loc Cert.ReferenceIdeal.main_v5_17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S512x64x256 : Shape := ⟨3, ![512, 64, 256]⟩
abbrev S512x2048 : Shape := ⟨2, ![512, 2048]⟩
abbrev S2048 : Shape := ⟨1, ![2048]⟩
abbrev S512x256 : Shape := ⟨2, ![512, 256]⟩
abbrev S256 : Shape := ⟨1, ![256]⟩
abbrev S512x64 : Shape := ⟨2, ![512, 64]⟩
abbrev S64 : Shape := ⟨1, ![64]⟩
abbrev S512x1 : Shape := ⟨2, ![512, 1]⟩
abbrev S1 : Shape := ⟨1, ![1]⟩
abbrev S256x2048 : Shape := ⟨2, ![256, 2048]⟩
abbrev S_ : Shape := ⟨0, ![]⟩

class Facts : Prop where
  slices_S512x2048_S256x2048_256_0 : S512x2048.Slices ![256, 0] S256x2048
  bcast_S_S256x2048 : S_.BroadcastsInDim S256x2048 (![] : Fin 0 → Fin S256x2048.rank)
  reducesTo_S256x2048_S_d0_1 : S256x2048.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg9 : FVec F S1 .f32) (main_v14 : IVec S_ 1) (main_v15 : FVec F S512x1 .f32) (main_v16 : FVec F S512x1 .f32) : IVec S_ 1 :=
  let main_v17 : IVec S512x1 1 := cmpf .olt main_v15 main_v16
  let main_c_5 : IVec S_ 1 := constantI S_ 1 1#1
  let main_v18 : IVec S_ 1 := (fun x v => Host.reduce IntOp.andi x v reducesTo_S512x1_S_d0_1 h_S_) main_v17 main_c_5
  let main_v19 : IVec S_ 1 := andi main_v14 main_v18
  let main_v20 : FVec F S1 .f32 := Host.absf main_arg9
  let main_cst_6 : FVec F S_ .f32 := constant S_ .f32 0x7F800000#32
  let main_v21 : FVec F S1 .f32 := broadcastInDim S1 ![] bcast_S_S1 main_cst_6
  let main_v22 : IVec S1 1 := cmpf .olt main_v20 main_v21
  let main_c_7 : IVec S_ 1 := constantI S_ 1 1#1
  let main_v23 : IVec S_ 1 := (fun x v => Host.reduce IntOp.andi x v reducesTo_S1_S_d0 h_S_) main_v22 main_c_7
  let main_v24 : IVec S_ 1 := andi main_v19 main_v23
  main_v24

def fn {F : FTy → Type} [FloatOps F] (main_arg0 : FVec F S512x64x256 .f32) (main_arg1 : FVec F S512x2048 .f32) (main_arg2 : FVec F S512x2048 .f32) (main_arg3 : FVec F S2048 .f32) (main_arg4 : FVec F S512x256 .f32) (main_arg5 : FVec F S256 .f32) (main_arg6 : FVec F S512x64 .f32) (main_arg7 : FVec F S64 .f32) (main_arg8 : FVec F S512x1 .f32) (main_arg9 : FVec F S1 .f32) (main_arg10 : FVec F S512x64 .f32) (main_arg11 : FVec F S64 .f32) : IVec S_ 1 :=
  let main_v0 : FVec F S256x2048 .f32 := (extractStridedSlice S256x2048 ![256, 0] · slices_S512x2048_S256x2048_256_0) main_arg1
  let main_v1 : FVec F S256x2048 .f32 := Host.absf main_v0
  let main_cst : FVec F S_ .f32 := constant S_ .f32 0x7F800000#32
  let main_v2 : FVec F S256x2048 .f32 := broadcastInDim S256x2048 ![] bcast_S_S256x2048 main_cst
  let main_v3 : IVec S256x2048 1 := cmpf .olt main_v1 main_v2
  let main_c : IVec S_ 1 := constantI S_ 1 1#1
  let main_v4 : IVec S_ 1 := (fun x v => Host.reduce IntOp.andi x v reducesTo_S256x2048_S_d0_1 h_S_) main_v3 main_c
  let main_v5 : FVec F S512x64 .f32 := Host.absf main_arg6
  let main_cst_0 : FVec F S_ .f32 := constant S_ .f32 0x7F800000#32
  let main_v6 : FVec F S512x64 .f32 := broadcastInDim S512x64 ![] bcast_S_S512x64 main_cst_0
  let main_v7 : IVec S512x64 1 := cmpf .olt main_v5 main_v6
  let main_c_1 : IVec S_ 1 := constantI S_ 1 1#1
  let main_v8 : IVec S_ 1 := (fun x v => Host.reduce IntOp.andi x v reducesTo_S512x64_S_d0_1 h_S_) main_v7 main_c_1
  let main_v9 : IVec S_ 1 := andi main_v4 main_v8
  let main_v10 : FVec F S64 .f32 := Host.absf main_arg7
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S512x1 .f32 := Host.absf main_arg8
  let main_cst_4 : FVec F S_ .f32 := constant S_ .f32 0x7F800000#32
  let main_v16 : FVec F S512x1 .f32 := broadcastInDim S512x1 ![] bcast_S_S512x1 main_cst_4
  fn_part1 (F := F) main_arg9 main_v14 main_v15 main_v16
-- ==== Kernel.lean ====
abbrev S512x64x256 : Shape := ⟨3, ![512, 64, 256]⟩
abbrev S512x2048 : Shape := ⟨2, ![512, 2048]⟩
abbrev S2048 : Shape := ⟨1, ![2048]⟩
abbrev S512x256 : Shape := ⟨2, ![512, 256]⟩
abbrev S256 : Shape := ⟨1, ![256]⟩
abbrev S512x64 : Shape := ⟨2, ![512, 64]⟩
abbrev S64 : Shape := ⟨1, ![64]⟩
abbrev S512x1 : Shape := ⟨2, ![512, 1]⟩
abbrev S1 : Shape := ⟨1, ![1]⟩
abbrev S256x2048 : Shape := ⟨2, ![256, 2048]⟩
abbrev S64x4x2048 : Shape := ⟨3, ![64, 4, 2048]⟩
abbrev S_ : Shape := ⟨0, ![]⟩
abbrev S64x2048 : Shape := ⟨2, ![64, 2048]⟩
abbrev S512x385 : Shape := ⟨2, ![512, 385]⟩
abbrev S512x512 : Shape := ⟨2, ![512, 512]⟩
abbrev S385 : Shape := ⟨1, ![385]⟩
abbrev S512 : Shape := ⟨1, ![512]⟩
abbrev S1x512 : Shape := ⟨2, ![1, 512]⟩
abbrev S1x2048 : Shape := ⟨2, ![1, 2048]⟩
abbrev S2x8x128 : Shape := ⟨3, ![2, 8, 128]⟩
abbrev S1x32x256 : Shape := ⟨3, ![1, 32, 256]⟩
abbrev S1x8x128 : Shape := ⟨3, ![1, 8, 128]⟩
abbrev S32x64x2048 : Shape := ⟨3, ![32, 64, 2048]⟩
abbrev S2048x2048 : Shape := ⟨2, ![2048, 2048]⟩
abbrev S32x512 : Shape := ⟨2, ![32, 512]⟩
abbrev S32x64 : Shape := ⟨2, ![32, 64]⟩
abbrev S32x2048 : Shape := ⟨2, ![32, 2048]⟩
abbrev S32x256 : Shape := ⟨2, ![32, 256]⟩
abbrev S32x1 : Shape := ⟨2, ![32, 1]⟩
abbrev S32 : Shape := ⟨1, ![32]⟩
abbrev S32x128 : Shape := ⟨2, ![32, 128]⟩
abbrev S32x1x2048 : Shape := ⟨3, ![32, 1, 2048]⟩
abbrev S32x64x1 : Shape := ⟨3, ![32, 64, 1]⟩
abbrev S1x32x64 : Shape := ⟨3, ![1, 32, 64]⟩
abbrev S1x1x1 : Shape := ⟨3, ![1, 1, 1]⟩
abbrev S8x128 : Shape := ⟨2, ![8, 128]⟩

abbrev nBuf : Space → Nat
  | .hbm => 36
  | .vmem => 19
  | .smem => 0
  | _ => 0

abbrev bufTy : (tb : Table) → Fin (tcTables nBuf tb) → BufTy
  | .hbm, ⟨0, _⟩ => ⟨S512x64x256, .f32⟩
  | .hbm, ⟨1, _⟩ => ⟨S512x2048, .f32⟩
  | .hbm, ⟨2, _⟩ => ⟨S512x2048, .f32⟩
  | .hbm, ⟨3, _⟩ => ⟨S2048, .f32⟩
  | .hbm, ⟨4, _⟩ => ⟨S512x256, .f32⟩
  | .hbm, ⟨5, _⟩ => ⟨S256, .f32⟩
  | .hbm, ⟨6, _⟩ => ⟨S512x64, .f32⟩
  | .hbm, ⟨7, _⟩ => ⟨S64, .f32⟩
  | .hbm, ⟨8, _⟩ => ⟨S512x1, .f32⟩
  | .hbm, ⟨9, _⟩ => ⟨S1, .f32⟩
  | .hbm, ⟨10, _⟩ => ⟨S512x64, .f32⟩
  | .hbm, ⟨11, _⟩ => ⟨S64, .f32⟩
  | .hbm, ⟨12, _⟩ => ⟨S256x2048, .f32⟩
  | .hbm, ⟨13, _⟩ => ⟨S256x2048, .f32⟩
  | .hbm, ⟨14, _⟩ => ⟨S64x4x2048, .f32⟩
  | .hbm, ⟨15, _⟩ => ⟨S_, .f32⟩
  | .hbm, ⟨16, _⟩ => ⟨S64x2048, .f32⟩
  | .hbm, ⟨17, _⟩ => ⟨S512x385, .f32⟩
  | .hbm, ⟨18, _⟩ => ⟨S_, .i32⟩
  | .hbm, ⟨19, _⟩ => ⟨S_, .f32⟩
  | .hbm, ⟨20, _⟩ => ⟨S512x512, .f32⟩
  | .hbm, ⟨21, _⟩ => ⟨S385, .f32⟩
  | .hbm, ⟨22, _⟩ => ⟨S_, .i32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S1x2048, .f32⟩
  | .hbm, ⟨27, _⟩ => ⟨S512x64x256, .f32⟩
  | .hbm, ⟨28, _⟩ => ⟨S2x8x128, .f32⟩
  | .hbm, ⟨29, _⟩ => ⟨S1x1x1, .f32⟩
  | .hbm, ⟨30, _⟩ => ⟨S_, .f32⟩
  | .hbm, ⟨31, _⟩ => ⟨S1x1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x32x256, .f32⟩
  | .local _ .vmem, ⟨1, _⟩ => ⟨S1x32x256, .f32⟩
  | .local _ .vmem, ⟨2, _⟩ => ⟨S256x2048, .f32⟩
  | .local _ .vmem, ⟨3, _⟩ => ⟨S64x2048, .f32⟩
  | .local _ .vmem, ⟨4, _⟩ => ⟨S512x2048, .f32⟩
  | .local _ .vmem, ⟨5, _⟩ => ⟨S1x2048, .f32⟩
  | .local _ .vmem, ⟨6, _⟩ => ⟨S512x512, .f32⟩
  | .local _ .vmem, ⟨7, _⟩ => ⟨S1x512, .f32⟩
  | .local _ .vmem, ⟨8, _⟩ => ⟨S1x32x256, .f32⟩
  | .local _ .vmem, ⟨9, _⟩ => ⟨S1x32x256, .f32⟩
  | .local _ .vmem, ⟨10, _⟩ => ⟨S1x8x128, .f32⟩
  | .local _ .vmem, ⟨11, _⟩ => ⟨S1x8x128, .f32⟩
  | .local _ .vmem, ⟨12, _⟩ => ⟨S32x64x2048, .f32⟩
  | .local _ .vmem, ⟨13, _⟩ => ⟨S2048x2048, .bf16⟩
  | .local _ .vmem, ⟨14, _⟩ => ⟨S32x512, .f32⟩
  | .local _ .vmem, ⟨15, _⟩ => ⟨S32x512, .f32⟩
  | .local _ .vmem, ⟨16, _⟩ => ⟨S32x64, .f32⟩
  | .local _ .vmem, ⟨17, _⟩ => ⟨S32x2048, .f32⟩
  | .local _ .vmem, ⟨18, _⟩ => ⟨S32x64, .f32⟩
  | _, _ => ⟨S512x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 512], ![false, false]⟩

def k0_cond2 (i : grid0.Coords) : BitVec 1 :=
  let arg1 : BitVec 32 := BitVec.ofNat 32 (i 1).val
  let c511_i32 : BitVec 32 := 511#32
  let v172 : BitVec 1 := Scalar.cmpi .eq arg1 c511_i32
  let v173 : BitVec 32 := Scalar.extui v172
  let c0_i32_71 : BitVec 32 := 0#32
  let v174 : BitVec 1 := Scalar.cmpi .ne v173 c0_i32_71
  v174

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S512x64x256 : Shape := ⟨3, ![512, 64, 256]⟩
abbrev S512x2048 : Shape := ⟨2, ![512, 2048]⟩
abbrev S2048 : Shape := ⟨1, ![2048]⟩
abbrev S512x256 : Shape := ⟨2, ![512, 256]⟩
abbrev S256 : Shape := ⟨1, ![256]⟩
abbrev S512x64 : Shape := ⟨2, ![512, 64]⟩
abbrev S64 : Shape := ⟨1, ![64]⟩
abbrev S512x1 : Shape := ⟨2, ![512, 1]⟩
abbrev S1 : Shape := ⟨1, ![1]⟩
abbrev S_ : Shape := ⟨0, ![]⟩
abbrev S64x2048x64 : Shape := ⟨3, ![64, 2048, 64]⟩
abbrev S64x512 : Shape := ⟨2, ![64, 512]⟩
abbrev S64x64x4 : Shape := ⟨3, ![64, 64, 4]⟩
abbrev S1x64x256 : Shape := ⟨3, ![1, 64, 256]⟩
abbrev S64x256 : Shape := ⟨2, ![64, 256]⟩
abbrev S64x2048 : Shape := ⟨2, ![64, 2048]⟩
abbrev S1x2048 : Shape := ⟨2, ![1, 2048]⟩
abbrev S1x256 : Shape := ⟨2, ![1, 256]⟩
abbrev S64x64 : Shape := ⟨2, ![64, 64]⟩
abbrev S1x64 : Shape := ⟨2, ![1, 64]⟩
abbrev S64x1 : Shape := ⟨2, ![64, 1]⟩
abbrev S1x1 : Shape := ⟨2, ![1, 1]⟩
abbrev S64x2048x1 : Shape := ⟨3, ![64, 2048, 1]⟩
abbrev S64x1x64 : Shape := ⟨3, ![64, 1, 64]⟩
abbrev S64x64x1 : Shape := ⟨3, ![64, 64, 1]⟩

abbrev nBuf : Space → Nat
  | .hbm => 178
  | .vmem => 0
  | .smem => 0
  | _ => 0

abbrev hbmTy0_0 (i : Nat) : BufTy := match i % 128 with
  | 0 => ⟨S512x64x256, .f32⟩
  | 1 => ⟨S512x2048, .f32⟩
  | 2 => ⟨S512x2048, .f32⟩
  | 3 => ⟨S2048, .f32⟩
  | 4 => ⟨S512x256, .f32⟩
  | 5 => ⟨S256, .f32⟩
  | 6 => ⟨S512x64, .f32⟩
  | 7 => ⟨S64, .f32⟩
  | 8 => ⟨S512x1, .f32⟩
  | 9 => ⟨S1, .f32⟩
  | 10 => ⟨S512x64, .f32⟩
  | 11 => ⟨S64, .f32⟩
  | 12 => ⟨S_, .f32⟩
  | 13 => ⟨S64x2048x64, .f32⟩
  | 14 => ⟨S_, .f32⟩
  | 15 => ⟨S64x512, .f32⟩
  | 16 => ⟨S_, .f32⟩
  | 17 => ⟨S64x512, .f32⟩
  | 18 => ⟨S_, .f32⟩
  | 19 => ⟨S64x64x4, .f32⟩
  | 20 => ⟨S_, .f32⟩
  | 21 => ⟨S_, .f32⟩
  | 22 => ⟨S512x64x256, .f32⟩
  | 23 => ⟨S_, .i32⟩
  | 24 => ⟨S512x64x256, .f32⟩
  | 25 => ⟨S512x2048, .f32⟩
  | 26 => ⟨S512x2048, .f32⟩
  | 27 => ⟨S2048, .f32⟩
  | 28 => ⟨S512x256, .f32⟩
  | 29 => ⟨S256, .f32⟩
  | 30 => ⟨S512x64, .f32⟩
  | 31 => ⟨S64, .f32⟩
  | 32 => ⟨S512x1, .f32⟩
  | 33 => ⟨S1, .f32⟩
  | 34 => ⟨S512x64, .f32⟩
  | 35 => ⟨S64, .f32⟩
  | 36 => ⟨S_, .i32⟩
  | 37 => ⟨S64x512, .f32⟩
  | 38 => ⟨S64x512, .f32⟩
  | 39 => ⟨S64x2048x64, .f32⟩
  | 40 => ⟨S64x64x4, .f32⟩
  | 41 => ⟨S_, .f32⟩
  | 42 => ⟨S512x64x256, .f32⟩
  | 43 => ⟨S_, .i32⟩
  | 44 => ⟨S_, .i1⟩
  | 45 => ⟨S_, .i32⟩
  | 46 => ⟨S_, .i32⟩
  | 47 => ⟨S1x64x256, .f32⟩
  | 48 => ⟨S64x256, .f32⟩
  | 49 => ⟨S64x256, .f32⟩
  | 50 => ⟨S64x512, .f32⟩
  | 51 => ⟨S64x2048, .f32⟩
  | 52 => ⟨S64x2048, .f32⟩
  | 53 => ⟨S64x2048, .f32⟩
  | 54 => ⟨S1x2048, .f32⟩
  | 55 => ⟨S64x2048, .f32⟩
  | 56 => ⟨S64x2048, .f32⟩
  | 57 => ⟨S64x512, .f32⟩
  | 58 => ⟨S64x512, .f32⟩
  | 59 => ⟨S64x512, .f32⟩
  | 60 => ⟨S64x512, .f32⟩
  | 61 => ⟨S64x512, .f32⟩
  | 62 => ⟨S64x512, .f32⟩
  | 63 => ⟨S_, .f32⟩
  | 64 => ⟨S64x512, .f32⟩
  | 65 => ⟨S64x512, .f32⟩
  | 66 => ⟨S_, .f32⟩
  | 67 => ⟨S64x512, .f32⟩
  | 68 => ⟨S64x512, .f32⟩
  | 69 => ⟨S64x512, .f32⟩
  | 70 => ⟨S64x512, .f32⟩
  | 71 => ⟨S64x512, .f32⟩
  | 72 => ⟨S_, .f32⟩
  | 73 => ⟨S64x512, .f32⟩
  | 74 => ⟨S64x512, .f32⟩
  | 75 => ⟨S_, .f32⟩
  | 76 => ⟨S64x512, .f32⟩
  | 77 => ⟨S64x512, .f32⟩
  | 78 => ⟨S64x512, .f32⟩
  | 79 => ⟨S64x512, .f32⟩
  | 80 => ⟨S64x512, .f32⟩
  | 81 => ⟨S64x512, .f32⟩
  | 82 => ⟨S64x512, .f32⟩
  | 83 => ⟨S_, .f32⟩
  | 84 => ⟨S64x512, .f32⟩
  | 85 => ⟨S64x512, .f32⟩
  | 86 => ⟨S_, .f32⟩
  | 87 => ⟨S64x512, .f32⟩
  | 88 => ⟨S64x512, .f32⟩
  | 89 => ⟨S64x512, .f32⟩
  | 90 => ⟨S64x512, .f32⟩
  | 91 => ⟨S64x256, .f32⟩
  | 92 => ⟨S1x256, .f32⟩
  | 93 => ⟨S64x256, .f32⟩
  | 94 => ⟨S64x256, .f32⟩
  | 95 => ⟨S64x64, .f32⟩
  | 96 => ⟨S1x64, .f32⟩
  | 97 => ⟨S64x64, .f32⟩
  | 98 => ⟨S64x64, .f32⟩
  | 99 => ⟨S64x1, .f32⟩
  | 100 => ⟨S1x1, .f32⟩
  | 101 => ⟨S64x1, .f32⟩
  | 102 => ⟨S64x1, .f32⟩
  | 103 => ⟨S_, .f32⟩
  | 104 => ⟨S64x1, .f32⟩
  | 105 => ⟨S64x1, .f32⟩
  | 106 => ⟨S64x1, .f32⟩
  | 107 => ⟨S64x1, .f32⟩
  | 108 => ⟨S64x1, .i1⟩
  | 109 => ⟨S64x1, .f32⟩
  | 110 => ⟨S64x1, .f32⟩
  | 111 => ⟨S64x1, .f32⟩
  | 112 => ⟨S64x1, .f32⟩
  | 113 => ⟨S64x1, .f32⟩
  | 114 => ⟨S64x1, .f32⟩
  | 115 => ⟨S64x1, .f32⟩
  | 116 => ⟨S64x1, .f32⟩
  | 117 => ⟨S64x64, .f32⟩
  | 118 => ⟨S1x64, .f32⟩
  | 119 => ⟨S64x64, .f32⟩
  | 120 => ⟨S64x64, .f32⟩
  | 121 => ⟨S64x2048, .f32⟩
  | 122 => ⟨S64x2048x64, .f32⟩
  | 123 => ⟨S_, .f32⟩
  | 124 => ⟨S64x2048, .f32⟩
  | 125 => ⟨S64x2048, .f32⟩
  | 126 => ⟨S_, .f32⟩
  | 127 => ⟨S64x2048, .f32⟩
  | _ => ⟨S512x64x256, .f32⟩

abbrev hbmTy0_1 (i : Nat) : BufTy := match i % 128 with
  | 0 => ⟨S64x2048, .f32⟩
  | 1 => ⟨S64x64, .f32⟩
  | 2 => ⟨S_, .f32⟩
  | 3 => ⟨S64, .f32⟩
  | 4 => ⟨S64x1, .f32⟩
  | 5 => ⟨S64x1, .f32⟩
  | 6 => ⟨S_, .f32⟩
  | 7 => ⟨S64x1, .f32⟩
  | 8 => ⟨S64x1, .f32⟩
  | 9 => ⟨S64x2048, .f32⟩
  | 10 => ⟨S64x2048, .f32⟩
  | 11 => ⟨S64x2048, .f32⟩
  | 12 => ⟨S64x2048, .f32⟩
  | 13 => ⟨S64x2048, .f32⟩
  | 14 => ⟨S_, .f32⟩
  | 15 => ⟨S64, .f32⟩
  | 16 => ⟨S_, .f32⟩
  | 17 => ⟨S64, .f32⟩
  | 18 => ⟨S64, .f32⟩
  | 19 => ⟨S64x1, .f32⟩
  | 20 => ⟨S64x2048, .f32⟩
  | 21 => ⟨S64x2048, .f32⟩
  | 22 => ⟨S64x2048, .f32⟩
  | 23 => ⟨S_, .f32⟩
  | 24 => ⟨S64, .f32⟩
  | 25 => ⟨S64x1, .f32⟩
  | 26 => ⟨S64x2048, .f32⟩
  | 27 => ⟨S64x2048, .f32⟩
  | 28 => ⟨S64x64, .f32⟩
  | 29 => ⟨S64x64, .f32⟩
  | 30 => ⟨S_, .f32⟩
  | 31 => ⟨S_, .f32⟩
  | 32 => ⟨S_, .f32⟩
  | 33 => ⟨S_, .f32⟩
  | 34 => ⟨S_, .f32⟩
  | 35 => ⟨S64x2048x1, .f32⟩
  | 36 => ⟨S64x1x64, .f32⟩
  | 37 => ⟨S64x2048x64, .f32⟩
  | 38 => ⟨S64x2048x64, .f32⟩
  | 39 => ⟨S64x2048x64, .f32⟩
  | 40 => ⟨S64x2048x64, .f32⟩
  | 41 => ⟨S64x64, .f32⟩
  | 42 => ⟨S64x64x1, .f32⟩
  | 43 => ⟨S64x64x4, .f32⟩
  | 44 => ⟨S1x64x256, .f32⟩
  | 45 => ⟨S_, .i32⟩
  | 46 => ⟨S_, .i32⟩
  | 47 => ⟨S512x64x256, .f32⟩
  | 48 => ⟨S_, .i32⟩
  | 49 => ⟨S_, .i32⟩
  | _ => ⟨S512x64x256, .f32⟩

abbrev hbmTy (i : Nat) : BufTy := match i / 128 with
  | 0 => hbmTy0_0 i
  | 1 => hbmTy0_1 i
  | _ => ⟨S512x64x256, .f32⟩

abbrev bufTy : (tb : Table) → Fin (tcTables nBuf tb) → BufTy
  | .hbm, ⟨i, _⟩ => hbmTy i
  | _, _ => ⟨S512x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_cst_3 : Ref sig .tc := ⟨.hbm, 20, rfl⟩
abbrev main_cst_4 : Ref sig .tc := ⟨.hbm, 21, rfl⟩
abbrev main_v4 : Ref sig .tc := ⟨.hbm, 22, rfl⟩
abbrev main_c : Ref sig .tc := ⟨.hbm, 23, rfl⟩
abbrev main_v5_0 : Ref sig .tc := ⟨.hbm, 24, rfl⟩
abbrev main_v5_1 : Ref sig .tc := ⟨.hbm, 25, rfl⟩
abbrev main_v5_2 : Ref sig .tc := ⟨.hbm, 26, rfl⟩
abbrev main_v5_3 : Ref sig .tc := ⟨.hbm, 27, rfl⟩
abbrev main_v5_4 : Ref sig .tc := ⟨.hbm, 28, rfl⟩
abbrev main_v5_5 : Ref sig .tc := ⟨.hbm, 29, rfl⟩
abbrev main_v5_6 : Ref sig .tc := ⟨.hbm, 30, rfl⟩
abbrev main_v5_7 : Ref sig .tc := ⟨.hbm, 31, rfl⟩
abbrev main_v5_8 : Ref sig .tc := ⟨.hbm, 32, rfl⟩
abbrev main_v5_9 : Ref sig .tc := ⟨.hbm, 33, rfl⟩
abbrev main_v5_10 : Ref sig .tc := ⟨.hbm, 34, rfl⟩
abbrev main_v5_11 : Ref sig .tc := ⟨.hbm, 35, rfl⟩
abbrev main_v5_12 : Ref sig .tc := ⟨.hbm, 36, rfl⟩
abbrev main_v5_13 : Ref sig .tc := ⟨.hbm, 37, rfl⟩
abbrev main_v5_14 : Ref sig .tc := ⟨.hbm, 38, rfl⟩
abbrev main_v5_15 : Ref sig .tc := ⟨.hbm, 39, rfl⟩
abbrev main_v5_16 : Ref sig .tc := ⟨.hbm, 40, rfl⟩
abbrev main_v5_17 : Ref sig .tc := ⟨.hbm, 41, rfl⟩
abbrev main_v5_18 : Ref sig .tc := ⟨.hbm, 42, rfl⟩
abbrev main_while0c_c_23 : Ref sig .tc := ⟨.hbm, 43, rfl⟩
abbrev main_while0c_v6 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_v0 : Ref sig .tc := ⟨.hbm, 47, rfl⟩
abbrev main_while0b_v6 : Ref sig .tc := ⟨.hbm, 48, rfl⟩
abbrev main_while0b_v7 : Ref sig .tc := ⟨.hbm, 49, rfl⟩
abbrev main_while0b_v8 : Ref sig .tc := ⟨.hbm, 50, rfl⟩
abbrev main_while0b_v9 : Ref sig .tc := ⟨.hbm, 51, rfl⟩
abbrev main_while0b_v10 : Ref sig .tc := ⟨.hbm, 52, rfl⟩
abbrev main_while0b_v11 : Ref sig .tc := ⟨.hbm, 53, rfl⟩
abbrev main_while0b_v12 : Ref sig .tc := ⟨.hbm, 54, rfl⟩
abbrev main_while0b_v13 : Ref sig .tc := ⟨.hbm, 55, rfl⟩
abbrev main_while0b_v14 : Ref sig .tc := ⟨.hbm, 56, rfl⟩
abbrev main_while0b_v15 : Ref sig .tc := ⟨.hbm, 57, rfl⟩
abbrev main_while0b_v16 : Ref sig .tc := ⟨.hbm, 58, rfl⟩
abbrev main_while0b_v17 : Ref sig .tc := ⟨.hbm, 59, rfl⟩
abbrev main_while0b_v18 : Ref sig .tc := ⟨.hbm, 60, rfl⟩
abbrev main_while0b_v19 : Ref sig .tc := ⟨.hbm, 61, rfl⟩
abbrev main_while0b_v20 : Ref sig .tc := ⟨.hbm, 62, rfl⟩
abbrev main_while0b_cst_23 : Ref sig .tc := ⟨.hbm, 63, rfl⟩
abbrev main_while0b_v21 : Ref sig .tc := ⟨.hbm, 64, rfl⟩
abbrev main_while0b_v22 : Ref sig .tc := ⟨.hbm, 65, rfl⟩
abbrev main_while0b_cst_24 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_cst_25 : Ref sig .tc := ⟨.hbm, 72, rfl⟩
abbrev main_while0b_v28 : Ref sig .tc := ⟨.hbm, 73, rfl⟩
abbrev main_while0b_v29 : Ref sig .tc := ⟨.hbm, 74, rfl⟩
abbrev main_while0b_cst_26 : Ref sig .tc := ⟨.hbm, 75, rfl⟩
abbrev main_while0b_v30 : Ref sig .tc := ⟨.hbm, 76, rfl⟩
abbrev main_while0b_v31 : Ref sig .tc := ⟨.hbm, 77, rfl⟩
abbrev main_while0b_v32 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_v36 : Ref sig .tc := ⟨.hbm, 82, rfl⟩
abbrev main_while0b_cst_27 : Ref sig .tc := ⟨.hbm, 83, rfl⟩
abbrev main_while0b_v37 : Ref sig .tc := ⟨.hbm, 84, rfl⟩
abbrev main_while0b_v38 : Ref sig .tc := ⟨.hbm, 85, rfl⟩
abbrev main_while0b_cst_28 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_call1_cst : Ref sig .tc := ⟨.hbm, 103, rfl⟩
abbrev main_while0b_call1_v0 : Ref sig .tc := ⟨.hbm, 104, rfl⟩
abbrev main_while0b_call1_v1 : Ref sig .tc := ⟨.hbm, 105, rfl⟩
abbrev main_while0b_call1_v2 : Ref sig .tc := ⟨.hbm, 106, rfl⟩
abbrev main_while0b_call1_v3 : Ref sig .tc := ⟨.hbm, 107, rfl⟩
abbrev main_while0b_call1_v4 : Ref sig .tc := ⟨.hbm, 108, rfl⟩
abbrev main_while0b_call1_v5 : Ref sig .tc := ⟨.hbm, 109, rfl⟩
abbrev main_while0b_call1_v6 : Ref sig .tc := ⟨.hbm, 110, rfl⟩
abbrev main_while0b_call1_v7 : Ref sig .tc := ⟨.hbm, 111, rfl⟩
abbrev main_while0b_call1_v8 : Ref sig .tc := ⟨.hbm, 112, rfl⟩
abbrev main_while0b_call1_v9 : Ref sig .tc := ⟨.hbm, 113, rfl⟩
abbrev main_while0b_call1_v10 : Ref sig .tc := ⟨.hbm, 114, rfl⟩
abbrev main_while0b_call1_v11 : Ref sig .tc := ⟨.hbm, 115, rfl⟩
abbrev main_while0b_v55 : Ref sig .tc := ⟨.hbm, 116, rfl⟩
abbrev main_while0b_v56 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_call2_v0 : Ref sig .tc := ⟨.hbm, 122, rfl⟩
abbrev main_while0b_call2_cst : Ref sig .tc := ⟨.hbm, 123, rfl⟩
abbrev main_while0b_call2_v1 : Ref sig .tc := ⟨.hbm, 124, rfl⟩
abbrev main_while0b_v61 : Ref sig .tc := ⟨.hbm, 125, rfl⟩
abbrev main_while0b_cst_29 : Ref sig .tc := ⟨.hbm, 126, rfl⟩
abbrev main_while0b_v62 : Ref sig .tc := ⟨.hbm, 127, rfl⟩
abbrev main_while0b_v63 : Ref sig .tc := ⟨.hbm, 128, rfl⟩
abbrev main_while0b_call3_v0 : Ref sig .tc := ⟨.hbm, 129, rfl⟩
abbrev main_while0b_call3_cst : Ref sig .tc := ⟨.hbm, 130, rfl⟩
abbrev main_while0b_call3_v1 : Ref sig .tc := ⟨.hbm, 131, rfl⟩
abbrev main_while0b_call3_v2 : Ref sig .tc := ⟨.hbm, 132, rfl⟩
abbrev main_while0b_v64 : Ref sig .tc := ⟨.hbm, 133, rfl⟩
abbrev main_while0b_cst_30 : Ref sig .tc := ⟨.hbm, 134, rfl⟩
abbrev main_while0b_v65 : Ref sig .tc := ⟨.hbm, 135, rfl⟩
abbrev main_while0b_v66 : Ref sig .tc := ⟨.hbm, 136, rfl⟩
abbrev main_while0b_v67 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_cst_31 : Ref sig .tc := ⟨.hbm, 142, rfl⟩
abbrev main_while0b_v72 : Ref sig .tc := ⟨.hbm, 143, rfl⟩
abbrev main_while0b_cst_32 : Ref sig .tc := ⟨.hbm, 144, rfl⟩
abbrev main_while0b_v73 : Ref sig .tc := ⟨.hbm, 145, rfl⟩
abbrev main_while0b_v74 : Ref sig .tc := ⟨.hbm, 146, rfl⟩
abbrev main_while0b_v75 : Ref sig .tc := ⟨.hbm, 147, rfl⟩
abbrev main_while0b_v76 : Ref sig .tc := ⟨.hbm, 148, rfl⟩
abbrev main_while0b_v77 : Ref sig .tc := ⟨.hbm, 149, rfl⟩
abbrev main_while0b_v78 : Ref sig .tc := ⟨.hbm, 150, rfl⟩
abbrev main_while0b_cst_33 : Ref sig .tc := ⟨.hbm, 151, rfl⟩
abbrev main_while0b_v79 : Ref sig .tc := ⟨.hbm, 152, rfl⟩
abbrev main_while0b_v80 : Ref sig .tc := ⟨.hbm, 153, rfl⟩
abbrev main_while0b_v81 : Ref sig .tc := ⟨.hbm, 154, rfl⟩
abbrev main_while0b_v82 : Ref sig .tc := ⟨.hbm, 155, rfl⟩
abbrev main_while0b_v83 : Ref sig .tc := ⟨.hbm, 156, rfl⟩
abbrev main_while0b_v84 : Ref sig .tc := ⟨.hbm, 157, rfl⟩
abbrev main_while0b_cst_34 : Ref sig .tc := ⟨.hbm, 158, rfl⟩
abbrev main_while0b_v85 : Ref sig .tc := ⟨.hbm, 159, rfl⟩
abbrev main_while0b_cst_35 : Ref sig .tc := ⟨.hbm, 160, rfl⟩
abbrev main_while0b_v86 : Ref sig .tc := ⟨.hbm, 161, rfl⟩
abbrev main_while0b_v87 : Ref sig .tc := ⟨.hbm, 162, rfl⟩
abbrev main_while0b_v88 : Ref sig .tc := ⟨.hbm, 163, rfl⟩
abbrev main_while0b_v89 : Ref sig .tc := ⟨.hbm, 164, rfl⟩
abbrev main_while0b_v90 : Ref sig .tc := ⟨.hbm, 165, rfl⟩
abbrev main_while0b_v91 : Ref sig .tc := ⟨.hbm, 166, rfl⟩
abbrev main_while0b_v92 : Ref sig .tc := ⟨.hbm, 167, rfl⟩
abbrev main_while0b_v93 : Ref sig .tc := ⟨.hbm, 168, rfl⟩
abbrev main_while0b_v94 : Ref sig .tc := ⟨.hbm, 169, rfl⟩
abbrev main_while0b_v95 : Ref sig .tc := ⟨.hbm, 170, rfl⟩
abbrev main_while0b_v96 : Ref sig .tc := ⟨.hbm, 171, rfl⟩
abbrev main_while0b_call4_v0 : Ref sig .tc := ⟨.hbm, 172, rfl⟩
abbrev main_while0b_call4_c : Ref sig .tc := ⟨.hbm, 173, rfl⟩
abbrev main_while0b_call4_c_0 : Ref sig .tc := ⟨.hbm, 174, rfl⟩
abbrev main_while0b_v97 : Ref sig .tc := ⟨.hbm, 175, rfl⟩
abbrev main_while0b_c_36 : Ref sig .tc := ⟨.hbm, 176, rfl⟩
abbrev main_while0b_v98 : Ref sig .tc := ⟨.hbm, 177, rfl⟩

abbrev nD : Nat := 1
abbrev τ : Topo := Topo.v7x

variable {F : FTy → Type} [FloatOps F]

abbrev main_while0_count : Scf.Loop 32 := ⟨0#32, 512#32, 1#32⟩
-- ==== Proof.KOut.lean ====
/- The kernel's two output arrays after the run: each index holds what the point that writes its block back left there
   (`G7`, `G8`), since the blocks written back tile the arrays. -/
module

public import proofs.«01_k».proof.Proof.Gen.KernelIdeal.Frame
public import Idealize.ShloMosaic.Lib.Pipeline.Value

@[expose] public section

noncomputable section

namespace Cert.KernelIdeal.Final

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The contents after two equal points are one (the bound's proof does not enter). -/
theorem outs_congr (c : Dev nD) (n : ℕ) (h : n < cfg0.N) (n' : ℕ) (h' : n' < cfg0.N) (e : n = n') :
    outsAt0 m c n h = outsAt0 m c n' h' := by subst e; rfl

/-! ## Output window 7 -/

/-- The block of the array that holds index `i`, numbered in the order the points write the blocks back (one per point),
    `i`'s place in it, and the point that writes it back. -/
abbrev run7Of (i : S512x64x256.Idx) : ℕ := 1 * ((i 0).val / 1 - 0) + 512 * ((i 1).val / 32 - 0) + 1024 * ((i 2).val / 256 - 0)
set_option backward.proofsInPublic true in
abbrev loc7Of (i : S512x64x256.Idx) : S1x32x256.Idx := fun a => match a with
  | ⟨0, _⟩ => ⟨(i 0).val % 1, Nat.mod_lt _ (by decide)⟩
  | ⟨1, _⟩ => ⟨(i 1).val % 32, Nat.mod_lt _ (by decide)⟩
  | ⟨2, _⟩ => ⟨(i 2).val % 256, Nat.mod_lt _ (by decide)⟩
abbrev pt7Of (i : S512x64x256.Idx) : ℕ := run7Of i

/-- WHAT THE ARRAY ENDS HOLDING at index `i` inside the box the flushing blocks fill: output 7's component of the
    contents after the point that writes `i`'s block back, at `i`'s place in the block. `G7` states the array's contents
    only inside the box. -/
def G7 (c : Dev nD) : Buf (Elt F) ((c : Thread nD τ).loc main_v10_0) := fun i =>
  if h : pt7Of i < cfg0.N then
    (outsAt0 m c (pt7Of i) h).1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 3) ∧ win0_7.index t (0 : Fin 3) ≤ 511
    ∧ 0 ≤ win0_7.index t (1 : Fin 3) ∧ win0_7.index t (1 : Fin 3) ≤ 1
    ∧ 0 ≤ win0_7.index t (2 : Fin 3) ∧ win0_7.index t (2 : Fin 3) ≤ 0
    ∧ 1 * (win0_7.index t (0 : Fin 3) - 0) + 512 * (win0_7.index t (1 : Fin 3) - 0) + 1024 * (win0_7.index t (2 : Fin 3) - 0) = t.val :=
  (by decide +kernel : ∀ t : Fin grid0.N, _)

/-- Every block of the box is SOME flushing point's: `onto7Pt`, the point that writes back the block at place `q` of the box. -/
abbrev onto7Pt (q0 : Fin 512) (q1 : Fin 2) (q2 : Fin 1) : Fin grid0.N :=
  ⟨1 * q0.val + 512 * q1.val + 1024 * q2.val, lt_of_lt_of_eq (by omega) N_0.symm⟩
theorem idx_onto7 : ∀ (q0 : Fin 512) (q1 : Fin 2) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 512) (q1 : Fin 2) (q2 : Fin 1), win0_7.flush (onto7Pt q0 q1 q2) = true ∧ win0_7.index (onto7Pt q0 q1 q2) = ![q0.val + 0, q1.val + 0, q2.val + 0]) q0 q1 q2⟩

/-- WHAT A FLUSHING POINT `t` WRITES BACK is block `t` of `G7`: output 7's component of the contents after `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  obtain ⟨e0, e1, e2, e3⟩ := idx_facts7 t
  funext y
  have hy0 : (y 0).val < 1 := (y 0).isLt
  have hy1 : (y 1).val < 32 := (y 1).isLt
  have hy2 : (y 2).val < 256 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 32 + 1 * (y 1).val := rfl
  have hb2 : (((cfg0.win 7).blk t).view.emb y 2).val = win0_7.index t (2 : Fin 3) * 256 + 1 * (y 2).val := rfl
  have hr : run7Of (((cfg0.win 7).blk t).view.emb y) = t.val := by
    show 1 * ((((cfg0.win 7).blk t).view.emb y 0).val / 1 - 0) + 512 * ((((cfg0.win 7).blk t).view.emb y 1).val / 32 - 0) + 1024 * ((((cfg0.win 7).blk t).view.emb y 2).val / 256 - 0) = _
    rw [hb0, hb1, hb2]
    rw [show (win0_7.index t (0 : Fin 3) * 1 + 1 * (y 0).val) / 1 = win0_7.index t (0 : Fin 3) from by omega]; rw [show (win0_7.index t (1 : Fin 3) * 32 + 1 * (y 1).val) / 32 = win0_7.index t (1 : Fin 3) from by omega]; rw [show (win0_7.index t (2 : Fin 3) * 256 + 1 * (y 2).val) / 256 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 32 = (y 1).val; rw [hb1]; omega
    | ⟨2, _⟩ => show (((cfg0.win 7).blk t).view.emb y 2).val % 256 = (y 2).val; rw [hb2]; omega
  have hp : pt7Of (((cfg0.win 7).blk t).view.emb y) = t.val := by
    exact hr
  show (outsAt0 m c t.val t.isLt).1 ((cfg0.win 7).xinj (grid0.coords t) y) = G7 m c (((cfg0.win 7).blk t).view.emb y)
  unfold G7
  rw [dif_pos (by rw [hp]; exact t.isLt), hl, outs_congr m c _ _ _ _ hp.symm]

/-- An index of the array is in point `t`'s block iff each coordinate is in the block's range on its axis. -/
theorem mem_blk7 (t : Fin cfg0.N) (i : S512x64x256.Idx) :
    i ∈ ((cfg0.win 7).blk t).view.set ↔ ∀ a : Fin 3, win0_7.index t a * S1x32x256.size a ≤ (i a).val ∧ (i a).val < win0_7.index t a * S1x32x256.size a + S1x32x256.size a := by
  show i ∈ ((View.whole main_v10_0).slice (win0_7.rect t)).set ↔ _
  rw [View.set_slice_whole, Rect.mem_set_unit]
  exact Iff.rfl

/-- THE COVERED INDICES: in some flushing point's block iff inside the box those blocks fill. -/
theorem covered_iff7 (i : S512x64x256.Idx) :
    (∃ t : Fin cfg0.N, (cfg0.win 7).flush t = true ∧ i ∈ ((cfg0.win 7).blk t).view.set) ↔ 0 ≤ (i 0).val ∧ (i 0).val < 512 ∧ 0 ≤ (i 1).val ∧ (i 1).val < 64 ∧ 0 ≤ (i 2).val ∧ (i 2).val < 256 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 32 ≤ (i 1).val ∧ (i 1).val < win0_7.index t (1 : Fin 3) * 32 + 32 := hi 1
    have b2 : win0_7.index t (2 : Fin 3) * 256 ≤ (i 2).val ∧ (i 2).val < win0_7.index t (2 : Fin 3) * 256 + 256 := hi 2
    obtain ⟨e0, e1, e2, e3⟩ := idx_facts7 t
    omega
  · intro h
    have hi0 : (i 0).val < 512 := (i 0).isLt
    have hi1 : (i 1).val < 64 := (i 1).isLt
    have hi2 : (i 2).val < 256 := (i 2).isLt
    obtain ⟨t, hft, ht⟩ := idx_onto7 ⟨(i 0).val / 1 - 0, by omega⟩ ⟨(i 1).val / 32 - 0, by omega⟩ ⟨(i 2).val / 256 - 0, by omega⟩
    have q0 : win0_7.index t (0 : Fin 3) = (i 0).val / 1 - 0 + 0 := congrFun ht 0
    have q1 : win0_7.index t (1 : Fin 3) = (i 1).val / 32 - 0 + 0 := congrFun ht 1
    have q2 : win0_7.index t (2 : Fin 3) = (i 2).val / 256 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 32 ≤ (i 1).val ∧ (i 1).val < win0_7.index t (1 : Fin 3) * 32 + 32; omega
    | ⟨2, _⟩ => show win0_7.index t (2 : Fin 3) * 256 ≤ (i 2).val ∧ (i 2).val < win0_7.index t (2 : Fin 3) * 256 + 256; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 512 := (i 0).isLt; have h1 : (i 1).val < 64 := (i 1).isLt; have h2 : (i 2).val < 256 := (i 2).isLt; omega))

/-! ## Output window 8 -/

/-- The block of the array that holds index `i`, numbered in the order the points write the blocks back (one every 512 points),
    `i`'s place in it, and the point that writes it back (the last of its 512). -/
abbrev run8Of (i : S2x8x128.Idx) : ℕ := 1 * ((i 0).val / 1 - 0) + 1 * ((i 1).val / 8 - 0) + 1 * ((i 2).val / 128 - 0)
set_option backward.proofsInPublic true in
abbrev loc8Of (i : S2x8x128.Idx) : S1x8x128.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 128, Nat.mod_lt _ (by decide)⟩
abbrev pt8Of (i : S2x8x128.Idx) : ℕ := 512 * run8Of i + 511

/-- WHAT THE ARRAY ENDS HOLDING at index `i` inside the box the flushing blocks fill: output 8's component of the
    contents after the point that writes `i`'s block back, at `i`'s place in the block. `G8` states the array's contents
    only inside the box. -/
def G8 (c : Dev nD) : Buf (Elt F) ((c : Thread nD τ).loc main_v10_1) := fun i =>
  if h : pt8Of i < cfg0.N then
    (outsAt0 m c (pt8Of i) h).2.1 (loc8Of i)
  else V m c (Pipeline.arrRef spec0 8) i

/-- The printed index map, decided over the grid: output window 8's block indices stay in the box, and the block number
    read off them is the point's (`t / 512`). -/
theorem idx_facts8 : ∀ t : Fin cfg0.N, 0 ≤ win0_8.index t (0 : Fin 3) ∧ win0_8.index t (0 : Fin 3) ≤ 1
    ∧ 0 ≤ win0_8.index t (1 : Fin 3) ∧ win0_8.index t (1 : Fin 3) ≤ 0
    ∧ 0 ≤ win0_8.index t (2 : Fin 3) ∧ win0_8.index t (2 : Fin 3) ≤ 0
    ∧ 1 * (win0_8.index t (0 : Fin 3) - 0) + 1 * (win0_8.index t (1 : Fin 3) - 0) + 1 * (win0_8.index t (2 : Fin 3) - 0) = t.val / 512 :=
  (by decide +kernel : ∀ t : Fin grid0.N, _)

/-- Every block of the box is SOME flushing point's: `onto8Pt`, the point that writes back the block at place `q` of the box (the last point of its run). -/
abbrev onto8Pt (q0 : Fin 2) (q1 : Fin 1) (q2 : Fin 1) : Fin grid0.N :=
  ⟨512 * (1 * q0.val + 1 * q1.val + 1 * q2.val) + 511, lt_of_lt_of_eq (by omega) N_0.symm⟩
theorem idx_onto8 : ∀ (q0 : Fin 2) (q1 : Fin 1) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 2) (q1 : Fin 1) (q2 : Fin 1), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the contents after `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  have hm : t.val % 512 = 511 := (flush0_8 t).mp hf
  obtain ⟨e0, e1, e2, e3⟩ := idx_facts8 t
  funext y
  have hy0 : (y 0).val < 1 := (y 0).isLt
  have hy1 : (y 1).val < 8 := (y 1).isLt
  have hy2 : (y 2).val < 128 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 8 + 1 * (y 1).val := rfl
  have hb2 : (((cfg0.win 8).blk t).view.emb y 2).val = win0_8.index t (2 : Fin 3) * 128 + 1 * (y 2).val := rfl
  have hr : run8Of (((cfg0.win 8).blk t).view.emb y) = t.val / 512 := by
    show 1 * ((((cfg0.win 8).blk t).view.emb y 0).val / 1 - 0) + 1 * ((((cfg0.win 8).blk t).view.emb y 1).val / 8 - 0) + 1 * ((((cfg0.win 8).blk t).view.emb y 2).val / 128 - 0) = _
    rw [hb0, hb1, hb2]
    rw [show (win0_8.index t (0 : Fin 3) * 1 + 1 * (y 0).val) / 1 = win0_8.index t (0 : Fin 3) from by omega]; rw [show (win0_8.index t (1 : Fin 3) * 8 + 1 * (y 1).val) / 8 = win0_8.index t (1 : Fin 3) from by omega]; rw [show (win0_8.index t (2 : Fin 3) * 128 + 1 * (y 2).val) / 128 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 8 = (y 1).val; rw [hb1]; omega
    | ⟨2, _⟩ => show (((cfg0.win 8).blk t).view.emb y 2).val % 128 = (y 2).val; rw [hb2]; omega
  have hp : pt8Of (((cfg0.win 8).blk t).view.emb y) = t.val := by
    show 512 * run8Of (((cfg0.win 8).blk t).view.emb y) + 511 = _
    rw [hr]; have := Nat.div_add_mod t.val 512; omega
  show (outsAt0 m c t.val t.isLt).2.1 ((cfg0.win 8).xinj (grid0.coords t) y) = G8 m c (((cfg0.win 8).blk t).view.emb y)
  unfold G8
  rw [dif_pos (by rw [hp]; exact t.isLt), hl, outs_congr m c _ _ _ _ hp.symm]

/-- An index of the array is in point `t`'s block iff each coordinate is in the block's range on its axis. -/
theorem mem_blk8 (t : Fin cfg0.N) (i : S2x8x128.Idx) :
    i ∈ ((cfg0.win 8).blk t).view.set ↔ ∀ a : Fin 3, win0_8.index t a * S1x8x128.size a ≤ (i a).val ∧ (i a).val < win0_8.index t a * S1x8x128.size a + S1x8x128.size a := by
  show i ∈ ((View.whole main_v10_1).slice (win0_8.rect t)).set ↔ _
  rw [View.set_slice_whole, Rect.mem_set_unit]
  exact Iff.rfl

/-- THE COVERED INDICES: in some flushing point's block iff inside the box those blocks fill. -/
theorem covered_iff8 (i : S2x8x128.Idx) :
    (∃ t : Fin cfg0.N, (cfg0.win 8).flush t = true ∧ i ∈ ((cfg0.win 8).blk t).view.set) ↔ 0 ≤ (i 0).val ∧ (i 0).val < 2 ∧ 0 ≤ (i 1).val ∧ (i 1).val < 8 ∧ 0 ≤ (i 2).val ∧ (i 2).val < 128 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 8 ≤ (i 1).val ∧ (i 1).val < win0_8.index t (1 : Fin 3) * 8 + 8 := hi 1
    have b2 : win0_8.index t (2 : Fin 3) * 128 ≤ (i 2).val ∧ (i 2).val < win0_8.index t (2 : Fin 3) * 128 + 128 := hi 2
    obtain ⟨e0, e1, e2, e3⟩ := idx_facts8 t
    omega
  · intro h
    have hi0 : (i 0).val < 2 := (i 0).isLt
    have hi1 : (i 1).val < 8 := (i 1).isLt
    have hi2 : (i 2).val < 128 := (i 2).isLt
    obtain ⟨t, hft, ht⟩ := idx_onto8 ⟨(i 0).val / 1 - 0, by omega⟩ ⟨(i 1).val / 8 - 0, by omega⟩ ⟨(i 2).val / 128 - 0, by omega⟩
    have q0 : win0_8.index t (0 : Fin 3) = (i 0).val / 1 - 0 + 0 := congrFun ht 0
    have q1 : win0_8.index t (1 : Fin 3) = (i 1).val / 8 - 0 + 0 := congrFun ht 1
    have q2 : win0_8.index t (2 : Fin 3) = (i 2).val / 128 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 8 ≤ (i 1).val ∧ (i 1).val < win0_8.index t (1 : Fin 3) * 8 + 8; omega
    | ⟨2, _⟩ => show win0_8.index t (2 : Fin 3) * 128 ≤ (i 2).val ∧ (i 2).val < win0_8.index t (2 : Fin 3) * 128 + 128; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 2 := (i 0).isLt; have h1 : (i 1).val < 8 := (i 1).isLt; have h2 : (i 2).val < 128 := (i 2).isLt; omega))

end Cert.KernelIdeal.Final

end
-- ==== Proof.KStep.lean ====
/- One run of the kernel's body as a function of the blocks it reads and the contents the scratch buffers hold:
   what it leaves in the two output blocks and in the seven scratch buffers, in each of the body's three cases. -/
module

public import proofs.«01_k».proof.Proof.Gen.KernelIdeal.Frame
public import Idealize.ShloMosaic.Lib.Pipeline.Value

@[expose] public section

set_option maxRecDepth 16384

noncomputable section

namespace Cert.KernelIdeal.Step

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

/-- The blocks one step reads. -/
structure Ins (F : FTy → Type) where
  x : Vec F S1x32x256 .f32
  wx : Vec F S256x2048 .f32
  wr : Vec F S64x2048 .f32
  wh : Vec F S512x2048 .f32
  bl : Vec F S1x2048 .f32
  wp : Vec F S512x512 .f32
  bp : Vec F S1x512 .f32

/-- The scratch buffers carried from step to step. -/
structure St (F : FTy → Type) where
  mem : Vec F S32x64x2048 .f32
  memb : Vec F S2048x2048 .bf16
  h : Vec F S32x512 .f32
  c : Vec F S32x512 .f32
  r : Vec F S32x64 .f32
  sq : Vec F S32x2048 .f32
  sl : Vec F S32x64 .f32

/-- The scratch buffers as the first step of a core finds them. -/
def zeroSt : St F := ⟨k0_pay3, k0_pay4, k0_pay5, k0_pay6, k0_pay7, k0_pay8, k0_pay9⟩

section
variable (i : Ins F) (s : St F)

def cNew : FVec F S32x512 .f32 := k0_pay11 i.x s.h s.c s.r i.wx i.wr i.wh i.bl
def hNew : FVec F S32x512 .f32 := k0_pay12 i.x s.h s.c s.r i.wx i.wr i.wh i.bl
def yBlk : FVec F S1x32x256 .f32 := k0_pay16 (hNew i s) i.wp i.bp
def key : FVec F S32x64 .f32 := k0_pay17 (hNew i s) i.wp i.bp
def beta : FVec F S32x1 .f32 := k0_pay18 (hNew i s) i.wp i.bp
def slNew : FVec F S32x64 .f32 := k0_pay20 (k0_pay19 (hNew i s) i.wp i.bp s.sl)
def kk : FVec F S32x1 .f32 := k0_pay21 (key i s)
def kn : FVec F S32x1 .f32 := k0_pay22 (key i s)
def num : FVec F S32x2048 .f32 := k0_pay23 (key i s) s.memb
def wgt : FVec F S32x2048 .f32 := k0_pay24 (beta i s) (kn i s) (num i s) s.sq (Scalar.ofBits .f32 0x00000000#32)
def memNew : FVec F S32x64x2048 .f32 := k0_pay26 (key i s) (beta i s) (kn i s) (num i s) s.sq (Scalar.ofBits .f32 0x00000000#32) s.mem
def membNew : FVec F S2048x2048 .bf16 := k0_pay27 (key i s) (beta i s) (kn i s) (num i s) s.sq (Scalar.ofBits .f32 0x00000000#32) s.mem
def rNew : FVec F S32x64 .f32 := k0_pay28 (key i s) (beta i s) (kn i s) (num i s) s.sq (Scalar.ofBits .f32 0x00000000#32) s.mem
def sqNew : FVec F S32x2048 .f32 := k0_pay1 (kk i s) (num i s) (wgt i s) s.sq

/-- The scratch buffers after one step. -/
def next : St F := ⟨memNew i s, membNew i s, k0_pay13 (hNew i s), k0_pay14 (cNew i s), rNew i s, sqNew i s, slNew i s⟩

end

variable (c : Dev nD) (i : grid0.Coords) (arg2 : Memref sig .tc .vmem S1x32x256 .f32) (harg2 : arg2.IsWhole) (arg3 : Memref sig .tc .vmem S256x2048 .f32) (harg3 : arg3.IsWhole) (arg4 : Memref sig .tc .vmem S64x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x32x256 .f32) (harg9 : arg9.IsWhole) (arg10 : Memref sig .tc .vmem S1x8x128 .f32) (harg10 : arg10.IsWhole) (arg11 : Memref sig .tc .vmem S32x64x2048 .f32) (harg11 : arg11.IsWhole) (arg12 : Memref sig .tc .vmem S2048x2048 .bf16) (harg12 : arg12.IsWhole) (arg13 : Memref sig .tc .vmem S32x512 .f32) (harg13 : arg13.IsWhole) (arg14 : Memref sig .tc .vmem S32x512 .f32) (harg14 : arg14.IsWhole) (arg15 : Memref sig .tc .vmem S32x64 .f32) (harg15 : arg15.IsWhole) (arg16 : Memref sig .tc .vmem S32x2048 .f32) (harg16 : arg16.IsWhole) (arg17 : Memref sig .tc .vmem S32x64 .f32) (harg17 : arg17.IsWhole)
variable (x0 : Vec F S1x32x256 .f32) (x1 : Vec F S256x2048 .f32) (x2 : Vec F S64x2048 .f32) (x3 : Vec F S512x2048 .f32) (x4 : Vec F S1x2048 .f32) (x5 : Vec F S512x512 .f32) (x6 : Vec F S1x512 .f32)
variable (xs0 : Vec F S32x64x2048 .f32) (xs1 : Vec F S2048x2048 .bf16) (xs2 : Vec F S32x512 .f32) (xs3 : Vec F S32x512 .f32) (xs4 : Vec F S32x64 .f32) (xs5 : Vec F S32x2048 .f32) (xs6 : Vec F S32x64 .f32)

theorem out0_B_7_eq (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = yBlk ⟨x0, x1, x2, x3, x4, x5, x6⟩ ⟨xs0, xs1, xs2, xs3, xs4, xs5, xs6⟩ := by
  unfold out0_B_7
  rw [View.read_writes_eq_canon VO0_7 _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_B_0_eq (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).mem := by
  unfold sout0_B_0
  rw [View.read_writes_eq_canon VS0_0 _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_B_1_eq (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).memb := by
  unfold sout0_B_1
  rw [View.read_writes_eq_canon VS0_1 _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_B_2_eq (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).h := by
  unfold sout0_B_2
  rw [View.read_writes_eq_canon VS0_2 _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_B_3_eq (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).c := by
  unfold sout0_B_3
  rw [View.read_writes_eq_canon VS0_3 _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_B_4_eq (hc0 : ¬cond0_0 i) (hc1 : ¬cond0_1 i) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).r := by
  unfold sout0_B_4
  rw [View.read_writes_eq_canon VS0_4 _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_B_5_eq (hc0 : ¬cond0_0 i) (hc1 : ¬cond0_1 i) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).sq := by
  unfold sout0_B_5
  rw [View.read_writes_eq_canon VS0_5 _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_B_6_eq (hc0 : ¬cond0_0 i) (hc1 : ¬cond0_1 i) :
    sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).sl := by
  unfold sout0_B_6
  rw [View.read_writes_eq_canon VS0_6 _ _ (scover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_B
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem out0_A_7_eq (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = yBlk ⟨x0, x1, x2, x3, x4, x5, x6⟩ zeroSt := by
  unfold out0_A_7
  rw [View.read_writes_eq_canon VO0_7 _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem sout0_A_0_eq (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = (next ⟨x0, x1, x2, x3, x4, x5, x6⟩ zeroSt).mem := by
  unfold sout0_A_0
  rw [View.read_writes_eq_canon VS0_0 _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem sout0_A_1_eq (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = (next ⟨x0, x1, x2, x3, x4, x5, x6⟩ zeroSt).memb := by
  unfold sout0_A_1
  rw [View.read_writes_eq_canon VS0_1 _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem sout0_A_2_eq (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = (next ⟨x0, x1, x2, x3, x4, x5, x6⟩ zeroSt).h := by
  unfold sout0_A_2
  rw [View.read_writes_eq_canon VS0_2 _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem sout0_A_3_eq (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = (next ⟨x0, x1, x2, x3, x4, x5, x6⟩ zeroSt).c := by
  unfold sout0_A_3
  rw [View.read_writes_eq_canon VS0_3 _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem sout0_A_4_eq (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = (next ⟨x0, x1, x2, x3, x4, x5, x6⟩ zeroSt).r := by
  unfold sout0_A_4
  rw [View.read_writes_eq_canon VS0_4 _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem sout0_A_5_eq (hc0 : cond0_0 i) (hc1 : ¬cond0_1 i) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = (next ⟨x0, x1, x2, x3, x4, x5, x6⟩ zeroSt).sq := by
  unfold sout0_A_5
  rw [View.read_writes_eq_canon VS0_5 _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem sout0_A_6_eq (hc0 : cond0_0 i) (hc1 : ¬cond0_1 i) :
    sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = (next ⟨x0, x1, x2, x3, x4, x5, x6⟩ zeroSt).sl := by
  unfold sout0_A_6
  rw [View.read_writes_eq_canon VS0_6 _ _ (scover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6)]
  unfold kernelRun0_A
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread]
  rfl

theorem out0_C_7_eq (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = yBlk ⟨x0, x1, x2, x3, x4, x5, x6⟩ ⟨xs0, xs1, xs2, xs3, xs4, xs5, xs6⟩ := by
  unfold out0_C_7
  rw [View.read_writes_eq_canon VO0_7 _ _ (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem out0_C_8_eq (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = k0_pay2 (slNew ⟨x0, x1, x2, x3, x4, x5, x6⟩ ⟨xs0, xs1, xs2, xs3, xs4, xs5, xs6⟩) := by
  unfold out0_C_8
  rw [View.read_writes_eq_canon VO0_8 _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_C_0_eq (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).mem := by
  unfold sout0_C_0
  rw [View.read_writes_eq_canon VS0_0 _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_C_1_eq (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).memb := by
  unfold sout0_C_1
  rw [View.read_writes_eq_canon VS0_1 _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_C_2_eq (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).h := by
  unfold sout0_C_2
  rw [View.read_writes_eq_canon VS0_2 _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_C_3_eq (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).c := by
  unfold sout0_C_3
  rw [View.read_writes_eq_canon VS0_3 _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_C_4_eq (hc0 : ¬cond0_0 i) (hc1 : cond0_1 i) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).r := by
  unfold sout0_C_4
  rw [View.read_writes_eq_canon VS0_4 _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_C_5_eq (hc0 : ¬cond0_0 i) (hc1 : cond0_1 i) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).sq := by
  unfold sout0_C_5
  rw [View.read_writes_eq_canon VS0_5 _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

theorem sout0_C_6_eq (hc0 : ¬cond0_0 i) (hc1 : cond0_1 i) :
    sout0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6 = (next ⟨x0, x1, x2, x3, x4, x5, x6⟩ ⟨xs0, xs1, xs2, xs3, xs4, xs5, xs6⟩).sl := by
  unfold sout0_C_6
  rw [View.read_writes_eq_canon VS0_6 _ _ (scover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs1 xs2 xs3 xs4 xs5 xs6)]
  unfold kernelRun0_C
  dsimp only
  sl_unfold_words
  simp only [View.readAt_eq_ld, View.canon_cons_unit_zero (S := S1x2048) hz2, View.canon_cons_unit_zero (S := S1x32x256) hz3, View.canon_cons_unit_zero (S := S1x512) hz2, View.canon_cons_unit_zero (S := S1x8x128) hz3, View.canon_cons_unit_zero (S := S2048x2048) hz2, View.canon_cons_unit_zero (S := S256x2048) hz2, View.canon_cons_unit_zero (S := S32x2048) hz2, View.canon_cons_unit_zero (S := S32x512) hz2, View.canon_cons_unit_zero (S := S32x64) hz2, View.canon_cons_unit_zero (S := S32x64x2048) hz3, View.canon_cons_unit_zero (S := S512x2048) hz2, View.canon_cons_unit_zero (S := S512x512) hz2, View.canon_cons_unit_zero (S := S64x2048) hz2, View.ld_unit_zero (S := S1x2048) hz2, View.ld_unit_zero (S := S1x32x256) hz3, View.ld_unit_zero (S := S1x512) hz2, View.ld_unit_zero (S := S1x8x128) hz3, View.ld_unit_zero (S := S2048x2048) hz2, View.ld_unit_zero (S := S256x2048) hz2, View.ld_unit_zero (S := S32x2048) hz2, View.ld_unit_zero (S := S32x512) hz2, View.ld_unit_zero (S := S32x64) hz2, View.ld_unit_zero (S := S32x64x2048) hz3, View.ld_unit_zero (S := S512x2048) hz2, View.ld_unit_zero (S := S512x512) hz2, View.ld_unit_zero (S := S64x2048) hz2, View.readCov_unit_zero (S := S1x2048) _ hz2, View.readCov_unit_zero (S := S1x32x256) _ hz3, View.readCov_unit_zero (S := S1x512) _ hz2, View.readCov_unit_zero (S := S1x8x128) _ hz3, View.readCov_unit_zero (S := S2048x2048) _ hz2, View.readCov_unit_zero (S := S256x2048) _ hz2, View.readCov_unit_zero (S := S32x2048) _ hz2, View.readCov_unit_zero (S := S32x512) _ hz2, View.readCov_unit_zero (S := S32x64) _ hz2, View.readCov_unit_zero (S := S32x64x2048) _ hz3, View.readCov_unit_zero (S := S512x2048) _ hz2, View.readCov_unit_zero (S := S512x512) _ hz2, View.readCov_unit_zero (S := S64x2048) _ hz2, harg2.read_unread, harg3.read_unread, harg4.read_unread, harg5.read_unread, harg6.read_unread, harg7.read_unread, harg8.read_unread, harg11.read_unread, harg12.read_unread, harg13.read_unread, harg14.read_unread, harg15.read_unread, harg16.read_unread, harg17.read_unread]
  rfl

end Cert.KernelIdeal.Step

end
-- ==== Proof.KRun.lean ====
/- The kernel's run read at its two results: the first is the array of the output blocks (`G7`), the second the quotient
   the lines after the region compute from the array of loss blocks (`G8`). -/
module

public import proofs.«01_k».proof.Proof.KOut
public import proofs.«01_k».proof.Proof.KStep
public import Idealize.ShloMosaic.Lib.StableHlo.RunRead

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.KernelIdeal.Step

variable {F : FTy → Type} [FloatOps F]
variable (m : (ℓ : Loc nD τ sig) → Buf (Elt F) ℓ) (ρ : Dev nD → PrngReg)

/-- What the lines after the region compute from the array of loss blocks. -/
def lossOf (b : Vec F S2x8x128 .f32) : Vec F S_ .f32 :=
  Host.divf (addf (shapeCast S_ (extractStridedSlice S1x1x1 ![0, 0, 0] b slices_S2x8x128_S1x1x1_0_0_0) shapeCasts_S1x1x1_S_)
    (shapeCast S_ (extractStridedSlice S1x1x1 ![1, 0, 0] b slices_S2x8x128_S1x1x1_1_0_0) shapeCasts_S1x1x1_S_))
    (constant S_ .f32 0x45800000#32)

theorem tail_v16 (c : Dev nD) :
    Pipeline.afterTail₀ cfgs (dats m) 0 (V0 m) [hostOps1] c main_v16 = lossOf (G8 m c) := by
  have hw := Pipeline.withArrays_arr spec0 (by decide : Function.Injective (Pipeline.arrRef spec0)) c (V0 m c)
    (fun w => (dats m 0 c).arrAt w cfg0.N) 8
  unfold Pipeline.afterTail₀
  simp only [List.flatten_cons, List.flatten_nil, List.append_nil]
  after_reads_simp
  unfold lossOf
  rw [← final8]
  exact congrArg (fun b : Vec F S2x8x128 .f32 => lossOf b) hw

theorem run : θ_run defs (onTc (τ := τ) (main (F := F))) ⟨m, fun _ => 0, ρ⟩ (fun r => ∀ c : Dev nD,
      r.2.mem ((c.tc : Thread nD τ).loc main_v10_0) = G7 m c
      ∧ r.2.mem ((c.tc : Thread nD τ).loc main_v16) = lossOf (G8 m c)) :=
  (θ_run defs _ _).mono (fun _ h c => ⟨((h c).1 7).trans (final7 m c),
    ((h c).2 main_v16 (Pipeline.mem_restRefs_of main_v16 (by decide) (by decide))).trans (tail_v16 m c)⟩) (run_main m ρ)

/-! ## The carried contents, step by step -/

/-- The blocks point `n` reads. -/
def insAt (c : Dev nD) (t : Fin cfg0.N) : Ins F :=
  ⟨iblk m c 0 t, iblk m c 1 t, iblk m c 2 t, iblk m c 3 t, iblk m c 4 t, iblk m c 5 t, iblk m c 6 t⟩

/-- The scratch buffers after point `n`. -/
def stAt (c : Dev nD) (n : ℕ) (h : n < cfg0.N) : St F :=
  ⟨(outsAt0 m c n h).2.2.1, (outsAt0 m c n h).2.2.2.1, (outsAt0 m c n h).2.2.2.2.1, (outsAt0 m c n h).2.2.2.2.2.1,
    (outsAt0 m c n h).2.2.2.2.2.2.1, (outsAt0 m c n h).2.2.2.2.2.2.2.1, (outsAt0 m c n h).2.2.2.2.2.2.2.2⟩

theorem stAt_congr (c : Dev nD) (n : ℕ) (h : n < cfg0.N) (n' : ℕ) (h' : n' < cfg0.N) (e : n = n') :
    stAt m c n h = stAt m c n' h' := by subst e; rfl

theorem st_first (c : Dev nD) (t : Fin cfg0.N) (h0 : t.val % 512 = 0) :
    (outsAt0 m c t.val t.isLt).1 = yBlk (insAt m c t) zeroSt ∧ stAt m c t.val t.isLt = next (insAt m c t) zeroSt := by
  have h1 : ¬ t.val % 512 = 511 := by omega
  unfold stAt
  rw [outsAt0_A m c t h0 h1]
  dsimp only
  rw [out0_A_7_eq, sout0_A_0_eq, sout0_A_1_eq, sout0_A_2_eq, sout0_A_3_eq, sout0_A_4_eq, sout0_A_5_eq, sout0_A_6_eq]
  exact ⟨rfl, rfl⟩

theorem st_later (c : Dev nD) (t : Fin cfg0.N) (h0 : ¬ t.val % 512 = 0) (hp : t.val - 1 < cfg0.N) :
    (outsAt0 m c t.val t.isLt).1 = yBlk (insAt m c t) (stAt m c (t.val - 1) hp)
    ∧ stAt m c t.val t.isLt = next (insAt m c t) (stAt m c (t.val - 1) hp) := by
  by_cases h1 : t.val % 512 = 511
  · unfold stAt
    rw [outsAt0_C m c t h0 h1]
    dsimp only
    rw [out0_C_7_eq, sout0_C_0_eq, sout0_C_1_eq, sout0_C_2_eq, sout0_C_3_eq, sout0_C_4_eq, sout0_C_5_eq, sout0_C_6_eq]
    exact ⟨rfl, rfl⟩
  · unfold stAt
    rw [outsAt0_B m c t h0 h1]
    dsimp only
    rw [out0_B_7_eq, sout0_B_0_eq, sout0_B_1_eq, sout0_B_2_eq, sout0_B_3_eq, sout0_B_4_eq, sout0_B_5_eq, sout0_B_6_eq]
    exact ⟨rfl, rfl⟩

theorem st_last (c : Dev nD) (t : Fin cfg0.N) (h1 : t.val % 512 = 511) :
    (outsAt0 m c t.val t.isLt).2.1 = k0_pay2 (stAt m c t.val t.isLt).sl := by
  have h0 : ¬ t.val % 512 = 0 := by omega
  unfold stAt
  rw [outsAt0_C m c t h0 h1]
  dsimp only
  rw [out0_C_8_eq, sout0_C_6_eq]
  rfl

/-- Point `k` of core `i`. -/
def pt (i : Fin 2) (k : ℕ) : Fin cfg0.N := ⟨(512 * i.val + k) % 1024, lt_of_lt_of_eq (Nat.mod_lt _ (by decide)) N_0.symm⟩

theorem pt_val (i : Fin 2) (k : ℕ) (hk : k < 512) : (pt i k).val = 512 * i.val + k := by
  show (512 * i.val + k) % 1024 = _
  have := i.isLt
  omega

/-- The scratch buffers core `i` finds at its step `k`. -/
def carry (c : Dev nD) (i : Fin 2) : ℕ → St F
  | 0 => zeroSt
  | k + 1 => next (insAt m c (pt i k)) (carry c i k)

theorem carry_spec (c : Dev nD) (i : Fin 2) : ∀ k, k < 512 →
    (outsAt0 m c (pt i k).val (pt i k).isLt).1 = yBlk (insAt m c (pt i k)) (carry m c i k)
    ∧ stAt m c (pt i k).val (pt i k).isLt = carry m c i (k + 1)
  | 0, _ => st_first m c (pt i 0) (by rw [pt_val i 0 (by omega)]; omega)
  | k + 1, hk => by
    have ih := (carry_spec c i k (by omega)).2
    have hv := pt_val i (k + 1) hk
    have hv' := pt_val i k (by omega)
    have hp : (pt i (k + 1)).val - 1 < cfg0.N := lt_of_le_of_lt (Nat.sub_le _ _) (pt i (k + 1)).isLt
    have h := st_later m c (pt i (k + 1)) (by rw [hv]; omega) hp
    have e : stAt m c ((pt i (k + 1)).val - 1) hp = carry m c i (k + 1) :=
      (stAt_congr m c _ _ _ (pt i k).isLt (by rw [hv, hv']; omega)).trans ih
    rw [e] at h
    exact h

/-- The first result at step `k`, row `r` of core `i`'s block. -/
theorem G7_apply (c : Dev nD) (x : S512x64x256.Idx) :
    G7 m c x = yBlk (insAt m c (pt ⟨(x 1).val / 32, by have := (x 1).isLt; change (x 1).val < 64 at this; omega⟩ (x 0).val))
      (carry m c ⟨(x 1).val / 32, by have := (x 1).isLt; change (x 1).val < 64 at this; omega⟩ (x 0).val) (loc7Of x) := by
  have h0 : (x 0).val < 512 := (x 0).isLt
  have h1 : (x 1).val < 64 := (x 1).isLt
  have h2 : (x 2).val < 256 := (x 2).isLt
  have hv := pt_val ⟨(x 1).val / 32, by omega⟩ (x 0).val h0
  have e : pt7Of x = (pt ⟨(x 1).val / 32, by omega⟩ (x 0).val).val := by
    rw [hv]; show 1 * ((x 0).val / 1 - 0) + 512 * ((x 1).val / 32 - 0) + 1024 * ((x 2).val / 256 - 0) = _
    dsimp only; omega
  unfold G7
  rw [dif_pos (by rw [e]; exact Fin.isLt _), outs_congr m c _ _ _ (Fin.isLt _) e, (carry_spec m c _ _ h0).1]

/-- The loss block of core `i`. -/
theorem G8_apply (c : Dev nD) (x : S2x8x128.Idx) :
    G8 m c x = k0_pay2 (carry m c (x 0) 512).sl (loc8Of x) := by
  have h0 : (x 0).val < 2 := (x 0).isLt
  have h1 : (x 1).val < 8 := (x 1).isLt
  have h2 : (x 2).val < 128 := (x 2).isLt
  have hv := pt_val (x 0) 511 (by decide)
  have e : pt8Of x = (pt (x 0) 511).val := by
    rw [hv]; show 512 * (1 * ((x 0).val / 1 - 0) + 1 * ((x 1).val / 8 - 0) + 1 * ((x 2).val / 128 - 0)) + 511 = _
    omega
  unfold G8
  rw [dif_pos (by rw [e]; exact Fin.isLt _), outs_congr m c _ _ _ (Fin.isLt _) e,
    st_last m c (pt (x 0) 511) (by rw [hv]; omega), (carry_spec m c (x 0) 511 (by decide)).2]

end Cert.KernelIdeal.Final

end
-- ==== Proof.RefRun.lean ====
/- The run of the reference over the step of Gen/ReferenceIdeal/Step.lean: at a valuation that holds a state, every value of
   one trip is that module's, so a trip keeps holding with `step` applied, and the results are the fields of `step` iterated.
   The text follows the generated statement of the same; the field of the output rows is closed by definition. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_13 : V0 (Proc.devRef .tc main_v5_13) = s.main_v5_13
  f_14 : V0 (Proc.devRef .tc main_v5_14) = s.main_v5_14
  f_15 : V0 (Proc.devRef .tc main_v5_15) = s.main_v5_15
  f_16 : V0 (Proc.devRef .tc main_v5_16) = s.main_v5_16
  f_17 : V0 (Proc.devRef .tc main_v5_17) = s.main_v5_17
  f_18 : V0 (Proc.devRef .tc main_v5_18) = s.main_v5_18
  f_0 : V0 (Proc.devRef .tc main_v5_0) = s.main_v5_0
  f_1 : V0 (Proc.devRef .tc main_v5_1) = s.main_v5_1
  f_2 : V0 (Proc.devRef .tc main_v5_2) = s.main_v5_2
  f_3 : V0 (Proc.devRef .tc main_v5_3) = s.main_v5_3
  f_4 : V0 (Proc.devRef .tc main_v5_4) = s.main_v5_4
  f_5 : V0 (Proc.devRef .tc main_v5_5) = s.main_v5_5
  f_6 : V0 (Proc.devRef .tc main_v5_6) = s.main_v5_6
  f_7 : V0 (Proc.devRef .tc main_v5_7) = s.main_v5_7
  f_8 : V0 (Proc.devRef .tc main_v5_8) = s.main_v5_8
  f_9 : V0 (Proc.devRef .tc main_v5_9) = s.main_v5_9
  f_10 : V0 (Proc.devRef .tc main_v5_10) = s.main_v5_10
  f_11 : V0 (Proc.devRef .tc main_v5_11) = s.main_v5_11
  n_12 : V0 (Proc.devRef .tc main_v5_12) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x64x256 (V0 (Proc.devRef .tc main_v5_0)) (fun k => (((![V0 (Proc.devRef .tc main_v5_12), constantI S_ 32 0#32, constantI S_ 32 0#32] : Fin 3 → (⟨S_, .i32⟩ : BufTy).Contents (Elt F))) k (Shape.Idx.first h_S_)).toInt) sliceFits_S512x64x256_S1x64x256 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_12]
  try rfl
set_option maxRecDepth 8192 in
theorem al_3 (h : Holds V0 s j) : (shapeCast S64x256 (Host.dynamicSlice S1x64x256 (V0 (Proc.devRef .tc main_v5_0)) (fun k => (((![V0 (Proc.devRef .tc main_v5_12), constantI S_ 32 0#32, constantI S_ 32 0#32] : Fin 3 → (⟨S_, .i32⟩ : BufTy).Contents (Elt F))) k (Shape.Idx.first h_S_)).toInt) sliceFits_S512x64x256_S1x64x256) shapeCasts_S1x64x256_S64x256 : (Proc.devRef .tc main_while0b_v6 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (shapeCast S64x256 (V0 (Proc.devRef .tc main_v5_16)) shapeCasts_S64x64x4_S64x256 : (Proc.devRef .tc main_while0b_v7 : DevRef τ sig).ty.Contents (Elt F)) = Cert.ReferenceIdeal.Step.b4 j s := by
  unfold Cert.ReferenceIdeal.Step.b4
  rw [h.f_16]
  try rfl
set_option maxRecDepth 8192 in
theorem al_5 (h : Holds V0 s j) : (concatenate S64x512 1 [⟨S64x256, (shapeCast S64x256 (Host.dynamicSlice S1x64x256 (V0 (Proc.devRef .tc main_v5_0)) (fun k => (((![V0 (Proc.devRef .tc main_v5_12), constantI S_ 32 0#32, constantI S_ 32 0#32] : Fin 3 → (⟨S_, .i32⟩ : BufTy).Contents (Elt F))) k (Shape.Idx.first h_S_)).toInt) sliceFits_S512x64x256_S1x64x256) shapeCasts_S1x64x256_S64x256)⟩, ⟨S64x256, (shapeCast S64x256 (V0 (Proc.devRef .tc main_v5_16)) shapeCasts_S64x64x4_S64x256)⟩] concatenates_S64x256_S64x256_S64x512_d1 : (Proc.devRef .tc main_while0b_v8 : DevRef τ sig).ty.Contents (Elt F)) = Cert.ReferenceIdeal.Step.b5 j s := by
  unfold Cert.ReferenceIdeal.Step.b5
  rw [← al_3 h, ← al_4 h]
  try rfl
set_option maxRecDepth 8192 in
theorem al_6 (h : Holds V0 s j) : (Host.dotGeneral dot_S64x512_S512x2048_S64x2048_1_0_0_1_n_n none (concatenate S64x512 1 [⟨S64x256, (shapeCast S64x256 (Host.dynamicSlice S1x64x256 (V0 (Proc.devRef .tc main_v5_0)) (fun k => (((![V0 (Proc.devRef .tc main_v5_12), constantI S_ 32 0#32, constantI S_ 32 0#32] : Fin 3 → (⟨S_, .i32⟩ : BufTy).Contents (Elt F))) k (Shape.Idx.first h_S_)).toInt) sliceFits_S512x64x256_S1x64x256) shapeCasts_S1x64x256_S64x256)⟩, ⟨S64x256, (shapeCast S64x256 (V0 (Proc.devRef .tc main_v5_16)) shapeCasts_S64x64x4_S64x256)⟩] concatenates_S64x256_S64x256_S64x512_d1) (V0 (Proc.devRef .tc main_v5_1)) : (Proc.devRef .tc main_while0b_v9 : DevRef τ sig).ty.Contents (Elt F)) = Cert.ReferenceIdeal.Step.b6 j s := by
  unfold Cert.ReferenceIdeal.Step.b6
  rw [← al_5 h, h.f_1]
  try rfl
set_option maxRecDepth 8192 in
theorem al_7 (h : Holds V0 s j) : (Host.dotGeneral dot_S64x512_S512x2048_S64x2048_1_0_0_1_n_n none (V0 (Proc.devRef .tc main_v5_13)) (V0 (Proc.devRef .tc main_v5_2)) : (Proc.devRef .tc main_while0b_v10 : DevRef τ sig).ty.Contents (Elt F)) = Cert.ReferenceIdeal.Step.b7 j s := by
  unfold Cert.ReferenceIdeal.Step.b7
  rw [h.f_13, h.f_2]
  try rfl
set_option maxRecDepth 8192 in
theorem al_8 (h : Holds V0 s j) : (addf (Host.dotGeneral dot_S64x512_S512x2048_S64x2048_1_0_0_1_n_n none (concatenate S64x512 1 [⟨S64x256, (shapeCast S64x256 (Host.dynamicSlice S1x64x256 (V0 (Proc.devRef .tc main_v5_0)) (fun k => (((![V0 (Proc.devRef .tc main_v5_12), constantI S_ 32 0#32, constantI S_ 32 0#32] : Fin 3 → (⟨S_, .i32⟩ : BufTy).Contents (Elt F))) k (Shape.Idx.first h_S_)).toInt) sliceFits_S512x64x256_S1x64x256) shapeCasts_S1x64x256_S64x256)⟩, ⟨S64x256, (shapeCast S64x256 (V0 (Proc.devRef .tc main_v5_16)) shapeCasts_S64x64x4_S64x256)⟩] concatenates_S64x256_S64x256_S64x512_d1) (V0 (Proc.devRef .tc main_v5_1))) (Host.dotGeneral dot_S64x512_S512x2048_S64x2048_1_0_0_1_n_n none (V0 (Proc.devRef .tc main_v5_13)) (V0 (Proc.devRef .tc main_v5_2))) : (Proc.devRef .tc main_while0b_v11 : DevRef τ sig).ty.Contents (Elt F)) = Cert.ReferenceIdeal.Step.b8 j s := by
  unfold Cert.ReferenceIdeal.Step.b8
  rw [← al_6 h, ← al_7 h]
  try rfl
set_option maxRecDepth 8192 in
theorem al_9 (h : Holds V0 s j) : (broadcastInDim S1x2048 ![1] bcast_S2048_S1x2048_1 (V0 (Proc.devRef .tc main_v5_3)) : (Proc.devRef .tc main_while0b_v12 : DevRef τ sig).ty.Contents (Elt F)) = Cert.ReferenceIdeal.Step.b9 j s := by
  unfold Cert.ReferenceIdeal.Step.b9
  rw [h.f_3]
  try rfl
set_option maxRecDepth 8192 in
theorem al_10 (h : Holds V0 s j) : (broadcastInDim S64x2048 ![0, 1] bcast_S1x2048_S64x2048_0_1 (broadcastInDim S1x2048 ![1] bcast_S2048_S1x2048_1 (V0 (Proc.devRef .tc main_v5_3))) : (Proc.devRef .tc main_while0b_v13 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (res_main_while0b_v14 V0 : (Proc.devRef .tc main_while0b_v14 : DevRef τ sig).ty.Contents (Elt F)) = Cert.ReferenceIdeal.Step.b11 j s := by
  unfold res_main_while0b_v14 Cert.ReferenceIdeal.Step.b11
  rw [← al_8 h, ← al_10 h]
  try rfl
set_option maxRecDepth 8192 in
theorem al_12 (h : Holds V0 s j) : (extractStridedSlice S64x512 ![0, 0] (res_main_while0b_v14 V0) slices_S64x2048_S64x512_0_0 : (Proc.devRef .tc main_while0b_v15 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (extractStridedSlice S64x512 ![0, 512] (res_main_while0b_v14 V0) slices_S64x2048_S64x512_0_512 : (Proc.devRef .tc main_while0b_v16 : DevRef τ sig).ty.Contents (Elt F)) = Cert.ReferenceIdeal.Step.b13 j s := by
  unfold Cert.ReferenceIdeal.Step.b13
  rw [← al_11 h]
  try rfl
set_option maxRecDepth 8192 in
theorem al_14 (h : Holds V0 s j) : (extractStridedSlice S64x512 ![0, 1024] (res_main_while0b_v14 V0) slices_S64x2048_S64x512_0_1024 : (Proc.devRef .tc main_while0b_v17 : DevRef τ sig).ty.Contents (Elt F)) = Cert.ReferenceIdeal.Step.b14 j s := by
  unfold Cert.ReferenceIdeal.Step.b14
  rw [← al_11 h]
  try rfl
set_option maxRecDepth 8192 in
theorem al_15 (h : Holds V0 s j) : (extractStridedSlice S64x512 ![0, 1536] (res_main_while0b_v14 V0) slices_S64x2048_S64x512_0_1536 : (Proc.devRef .tc main_while0b_v18 : DevRef τ sig).ty.Contents (Elt F)) = Cert.ReferenceIdeal.Step.b15 j s := by
  unfold Cert.ReferenceIdeal.Step.b15
  rw [← al_11 h]
  try rfl
set_option maxRecDepth 8192 in
theorem al_16 (h : Holds V0 s j) : (Host.negf (extractStridedSlice S64x512 ![0, 512] (res_main_while0b_v14 V0) slices_S64x2048_S64x512_0_512) : (Proc.devRef .tc main_while0b_v19 : DevRef τ sig).ty.Contents (Elt F)) = Cert.ReferenceIdeal.Step.b16 j s := by
  unfold Cert.ReferenceIdeal.Step.b16
  rw [← al_13 h]
  try rfl
set_option maxRecDepth 8192 in
theorem al_17 (h : Holds V0 s j) : (Host.exp (Host.negf (extractStridedSlice S64x512 ![0, 512] (res_main_while0b_v14 V0) slices_S64x2048_S64x512_0_512)) : (Proc.devRef .tc main_while0b_v20 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constant S_ .f32 0x3F800000#32 : (Proc.devRef .tc main_while0b_cst_23 : DevRef τ sig).ty.Contents (Elt F)) = Cert.ReferenceIdeal.Step.b18 j s := by
  unfold Cert.ReferenceIdeal.Step.b18
  rfl
set_option maxRecDepth 8192 in
theorem al_19 (h : Holds V0 s j) : (broadcastInDim S64x512 ![] bcast_S_S64x512 (constant S_ .f32 0x3F800000#32) : (Proc.devRef .tc main_while0b_v21 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (addf (broadcastInDim S64x512 ![] bcast_S_S64x512 (constant S_ .f32 0x3F800000#32)) (Host.exp (Host.negf (extractStridedSlice S64x512 ![0, 512] (res_main_while0b_v14 V0) slices_S64x2048_S64x512_0_512))) : (Proc.devRef .tc main_while0b_v22 : DevRef τ sig).ty.Contents (Elt F)) = Cert.ReferenceIdeal.Step.b20 j s := by
  unfold Cert.ReferenceIdeal.Step.b20
  rw [← al_19 h, ← al_17 h]
  try rfl
set_option maxRecDepth 8192 in
theorem al_21 (h : Holds V0 s j) : (constant S_ .f32 0x3F800000#32 : (Proc.devRef .tc main_while0b_cst_24 : DevRef τ sig).ty.Contents (Elt F)) = Cert.ReferenceIdeal.Step.b21 j s := by
  unfold Cert.ReferenceIdeal.Step.b21
  rfl
set_option maxRecDepth 8192 in
theorem al_22 (h : Holds V0 s j) : (broadcastInDim S64x512 ![] bcast_S_S64x512 (constant S_ .f32 0x3F800000#32) : (Proc.devRef .tc main_while0b_v23 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (Host.divf (broadcastInDim S64x512 ![] bcast_S_S64x512 (constant S_ .f32 0x3F800000#32)) (addf (broadcastInDim S64x512 ![] bcast_S_S64x512 (constant S_ .f32 0x3F800000#32)) (Host.exp (Host.negf (extractStridedSlice S64x512 ![0, 512] (res_main_while0b_v14 V0) slices_S64x2048_S64x512_0_512)))) : (Proc.devRef .tc main_while0b_v24 : DevRef τ sig).ty.Contents (Elt F)) = Cert.ReferenceIdeal.Step.b23 j s := by
  unfold Cert.ReferenceIdeal.Step.b23
  rw [← al_22 h, ← al_20 h]
  try rfl
set_option maxRecDepth 8192 in
theorem al_24 (h : Holds V0 s j) : (mulf (Host.divf (broadcastInDim S64x512 ![] bcast_S_S64x512 (constant S_ .f32 0x3F800000#32)) (addf (broadcastInDim S64x512 ![] bcast_S_S64x512 (constant S_ .f32 0x3F800000#32)) (Host.exp (Host.negf (extractStridedSlice S64x512 ![0, 512] (res_main_while0b_v14 V0) slices_S64x2048_S64x512_0_512))))) (V0 (Proc.devRef .tc main_v5_14)) : (Proc.devRef .tc main_while0b_v25 : DevRef τ sig).ty.Contents (Elt F)) = Cert.ReferenceIdeal.Step.b24 j s := by
  unfold Cert.ReferenceIdeal.Step.b24
  rw [← al_23 h, h.f_14]
  try rfl
set_option maxRecDepth 8192 in
theorem al_25 (h : Holds V0 s j) : (Host.negf (extractStridedSlice S64x512 ![0, 0] (res_main_while0b_v14 V0) slices_S64x2048_S64x512_0_0) : (Proc.devRef .tc main_while0b_v26 : DevRef τ sig).ty.Contents (Elt F)) = Cert.ReferenceIdeal.Step.b25 j s := by
  unfold Cert.ReferenceIdeal.Step.b25
  rw [← al_12 h]
  try rfl
set_option maxRecDepth 8192 in
theorem al_26 (h : Holds V0 s j) : (Host.exp (Host.negf (extractStridedSlice S64x512 ![0, 0] (res_main_while0b_v14 V0) slices_S64x2048_S64x512_0_0)) : (Proc.devRef .tc main_while0b_v27 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (constant S_ .f32 0x3F800000#32 : (Proc.devRef .tc main_while0b_cst_25 : DevRef τ sig).ty.Contents (Elt F)) = Cert.ReferenceIdeal.Step.b27 j s := by
  unfold Cert.ReferenceIdeal.Step.b27
  rfl
set_option maxRecDepth 8192 in
theorem al_28 (h : Holds V0 s j) : (broadcastInDim S64x512 ![] bcast_S_S64x512 (constant S_ .f32 0x3F800000#32) : (Proc.devRef .tc main_while0b_v28 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (addf (broadcastInDim S64x512 ![] bcast_S_S64x512 (constant S_ .f32 0x3F800000#32)) (Host.exp (Host.negf (extractStridedSlice S64x512 ![0, 0] (res_main_while0b_v14 V0) slices_S64x2048_S64x512_0_0))) : (Proc.devRef .tc main_while0b_v29 : DevRef τ sig).ty.Contents (Elt F)) = Cert.ReferenceIdeal.Step.b29 j s := by
  unfold Cert.ReferenceIdeal.Step.b29
  rw [← al_28 h, ← al_26 h]
  try rfl
set_option maxRecDepth 8192 in
theorem al_30 (h : Holds V0 s j) : (constant S_ .f32 0x3F800000#32 : (Proc.devRef .tc main_while0b_cst_26 : DevRef τ sig).ty.Contents (Elt F)) = Cert.ReferenceIdeal.Step.b30 j s := by
  unfold Cert.ReferenceIdeal.Step.b30
  rfl
set_option maxRecDepth 8192 in
theorem al_31 (h : Holds V0 s j) : (broadcastInDim S64x512 ![] bcast_S_S64x512 (constant S_ .f32 0x3F800000#32) : (Proc.devRef .tc main_while0b_v30 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (Host.divf (broadcastInDim S64x512 ![] bcast_S_S64x512 (constant S_ .f32 0x3F800000#32)) (addf (broadcastInDim S64x512 ![] bcast_S_S64x512 (constant S_ .f32 0x3F800000#32)) (Host.exp (Host.negf (extractStridedSlice S64x512 ![0, 0] (res_main_while0b_v14 V0) slices_S64x2048_S64x512_0_0)))) : (Proc.devRef .tc main_while0b_v31 : DevRef τ sig).ty.Contents (Elt F)) = Cert.ReferenceIdeal.Step.b32 j s := by
  unfold Cert.ReferenceIdeal.Step.b32
  rw [← al_31 h, ← al_29 h]
  try rfl
set_option maxRecDepth 8192 in
theorem al_33 (h : Holds V0 s j) : (Host.tanh (extractStridedSlice S64x512 ![0, 1024] (res_main_while0b_v14 V0) slices_S64x2048_S64x512_0_1024) : (Proc.devRef .tc main_while0b_v32 : DevRef τ sig).ty.Contents (Elt F)) = Cert.ReferenceIdeal.Step.b33 j s := by
  unfold Cert.ReferenceIdeal.Step.b33
  rw [← al_14 h]
  try rfl
set_option maxRecDepth 8192 in
theorem al_34 (h : Holds V0 s j) : (mulf (Host.divf (broadcastInDim S64x512 ![] bcast_S_S64x512 (constant S_ .f32 0x3F800000#32)) (addf (broadcastInDim S64x512 ![] bcast_S_S64x512 (constant S_ .f32 0x3F800000#32)) (Host.exp (Host.negf (extractStridedSlice S64x512 ![0, 0] (res_main_while0b_v14 V0) slices_S64x2048_S64x512_0_0))))) (Host.tanh (extractStridedSlice S64x512 ![0, 1024] (res_main_while0b_v14 V0) slices_S64x2048_S64x512_0_1024)) : (Proc.devRef .tc main_while0b_v33 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (res_main_while0b_v34 V0 : (Proc.devRef .tc main_while0b_v34 : DevRef τ sig).ty.Contents (Elt F)) = Cert.ReferenceIdeal.Step.b35 j s := by
  unfold res_main_while0b_v34 Cert.ReferenceIdeal.Step.b35
  rw [← al_24 h, ← al_34 h]
  try rfl
set_option maxRecDepth 8192 in
theorem al_36 (h : Holds V0 s j) : (Host.negf (extractStridedSlice S64x512 ![0, 1536] (res_main_while0b_v14 V0) slices_S64x2048_S64x512_0_1536) : (Proc.devRef .tc main_while0b_v35 : DevRef τ sig).ty.Contents (Elt F)) = Cert.ReferenceIdeal.Step.b36 j s := by
  unfold Cert.ReferenceIdeal.Step.b36
  rw [← al_15 h]
  try rfl
set_option maxRecDepth 8192 in
theorem al_37 (h : Holds V0 s j) : (Host.exp (Host.negf (extractStridedSlice S64x512 ![0, 1536] (res_main_while0b_v14 V0) slices_S64x2048_S64x512_0_1536)) : (Proc.devRef .tc main_while0b_v36 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (constant S_ .f32 0x3F800000#32 : (Proc.devRef .tc main_while0b_cst_27 : DevRef τ sig).ty.Contents (Elt F)) = Cert.ReferenceIdeal.Step.b38 j s := by
  unfold Cert.ReferenceIdeal.Step.b38
  rfl
set_option maxRecDepth 8192 in
theorem al_39 (h : Holds V0 s j) : (broadcastInDim S64x512 ![] bcast_S_S64x512 (constant S_ .f32 0x3F800000#32) : (Proc.devRef .tc main_while0b_v37 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (addf (broadcastInDim S64x512 ![] bcast_S_S64x512 (constant S_ .f32 0x3F800000#32)) (Host.exp (Host.negf (extractStridedSlice S64x512 ![0, 1536] (res_main_while0b_v14 V0) slices_S64x2048_S64x512_0_1536))) : (Proc.devRef .tc main_while0b_v38 : DevRef τ sig).ty.Contents (Elt F)) = Cert.ReferenceIdeal.Step.b40 j s := by
  unfold Cert.ReferenceIdeal.Step.b40
  rw [← al_39 h, ← al_37 h]
  try rfl
set_option maxRecDepth 8192 in
theorem al_41 (h : Holds V0 s j) : (constant S_ .f32 0x3F800000#32 : (Proc.devRef .tc main_while0b_cst_28 : DevRef τ sig).ty.Contents (Elt F)) = Cert.ReferenceIdeal.Step.b41 j s := by
  unfold Cert.ReferenceIdeal.Step.b41
  rfl
set_option maxRecDepth 8192 in
theorem al_42 (h : Holds V0 s j) : (broadcastInDim S64x512 ![] bcast_S_S64x512 (constant S_ .f32 0x3F800000#32) : (Proc.devRef .tc main_while0b_v39 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (Host.divf (broadcastInDim S64x512 ![] bcast_S_S64x512 (constant S_ .f32 0x3F800000#32)) (addf (broadcastInDim S64x512 ![] bcast_S_S64x512 (constant S_ .f32 0x3F800000#32)) (Host.exp (Host.negf (extractStridedSlice S64x512 ![0, 1536] (res_main_while0b_v14 V0) slices_S64x2048_S64x512_0_1536)))) : (Proc.devRef .tc main_while0b_v40 : DevRef τ sig).ty.Contents (Elt F)) = Cert.ReferenceIdeal.Step.b43 j s := by
  unfold Cert.ReferenceIdeal.Step.b43
  rw [← al_42 h, ← al_40 h]
  try rfl
set_option maxRecDepth 8192 in
theorem al_44 (h : Holds V0 s j) : (Host.tanh (res_main_while0b_v34 V0) : (Proc.devRef .tc main_while0b_v41 : DevRef τ sig).ty.Contents (Elt F)) = Cert.ReferenceIdeal.Step.b44 j s := by
  unfold Cert.ReferenceIdeal.Step.b44
  rw [← al_35 h]
  try rfl
set_option maxRecDepth 8192 in
theorem al_45 (h : Holds V0 s j) : (res_main_while0b_v42 V0 : (Proc.devRef .tc main_while0b_v42 : DevRef τ sig).ty.Contents (Elt F)) = Cert.ReferenceIdeal.Step.b45 j s := by
  unfold res_main_while0b_v42 Cert.ReferenceIdeal.Step.b45
  rw [← al_43 h, ← al_44 h]
  try rfl
set_option maxRecDepth 8192 in
theorem al_46 (h : Holds V0 s j) : (Host.dotGeneral dot_S64x512_S512x256_S64x256_1_0_0_1_n_n none (res_main_while0b_v42 V0) (V0 (Proc.devRef .tc main_v5_4)) : (Proc.devRef .tc main_while0b_v43 : DevRef τ sig).ty.Contents (Elt F)) = Cert.ReferenceIdeal.Step.b46 j s := by
  unfold Cert.ReferenceIdeal.Step.b46
  rw [← al_45 h, h.f_4]
  try rfl
set_option maxRecDepth 8192 in
theorem al_47 (h : Holds V0 s j) : (broadcastInDim S1x256 ![1] bcast_S256_S1x256_1 (V0 (Proc.devRef .tc main_v5_5)) : (Proc.devRef .tc main_while0b_v44 : DevRef τ sig).ty.Contents (Elt F)) = Cert.ReferenceIdeal.Step.b47 j s := by
  unfold Cert.ReferenceIdeal.Step.b47
  rw [h.f_5]
  try rfl
set_option maxRecDepth 8192 in
theorem al_48 (h : Holds V0 s j) : (broadcastInDim S64x256 ![0, 1] bcast_S1x256_S64x256_0_1 (broadcastInDim S1x256 ![1] bcast_S256_S1x256_1 (V0 (Proc.devRef .tc main_v5_5))) : (Proc.devRef .tc main_while0b_v45 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (addf (Host.dotGeneral dot_S64x512_S512x256_S64x256_1_0_0_1_n_n none (res_main_while0b_v42 V0) (V0 (Proc.devRef .tc main_v5_4))) (broadcastInDim S64x256 ![0, 1] bcast_S1x256_S64x256_0_1 (broadcastInDim S1x256 ![1] bcast_S256_S1x256_1 (V0 (Proc.devRef .tc main_v5_5)))) : (Proc.devRef .tc main_while0b_v46 : DevRef τ sig).ty.Contents (Elt F)) = Cert.ReferenceIdeal.Step.b49 j s := by
  unfold Cert.ReferenceIdeal.Step.b49
  rw [← al_46 h, ← al_48 h]
  try rfl
set_option maxRecDepth 8192 in
theorem al_50 (h : Holds V0 s j) : (Host.dotGeneral dot_S64x512_S512x64_S64x64_1_0_0_1_n_n none (res_main_while0b_v42 V0) (V0 (Proc.devRef .tc main_v5_6)) : (Proc.devRef .tc main_while0b_v47 : DevRef τ sig).ty.Contents (Elt F)) = Cert.ReferenceIdeal.Step.b50 j s := by
  unfold Cert.ReferenceIdeal.Step.b50
  rw [← al_45 h, h.f_6]
  try rfl
set_option maxRecDepth 8192 in
theorem al_51 (h : Holds V0 s j) : (broadcastInDim S1x64 ![1] bcast_S64_S1x64_1 (V0 (Proc.devRef .tc main_v5_7)) : (Proc.devRef .tc main_while0b_v48 : DevRef τ sig).ty.Contents (Elt F)) = Cert.ReferenceIdeal.Step.b51 j s := by
  unfold Cert.ReferenceIdeal.Step.b51
  rw [h.f_7]
  try rfl
set_option maxRecDepth 8192 in
theorem al_52 (h : Holds V0 s j) : (broadcastInDim S64x64 ![0, 1] bcast_S1x64_S64x64_0_1 (broadcastInDim S1x64 ![1] bcast_S64_S1x64_1 (V0 (Proc.devRef .tc main_v5_7))) : (Proc.devRef .tc main_while0b_v49 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (res_main_while0b_v50 V0 : (Proc.devRef .tc main_while0b_v50 : DevRef τ sig).ty.Contents (Elt F)) = Cert.ReferenceIdeal.Step.b53 j s := by
  unfold res_main_while0b_v50 Cert.ReferenceIdeal.Step.b53
  rw [← al_50 h, ← al_52 h]
  try rfl
set_option maxRecDepth 8192 in
theorem al_54 (h : Holds V0 s j) : (Host.dotGeneral dot_S64x512_S512x1_S64x1_1_0_0_1_n_n none (res_main_while0b_v42 V0) (V0 (Proc.devRef .tc main_v5_8)) : (Proc.devRef .tc main_while0b_v51 : DevRef τ sig).ty.Contents (Elt F)) = Cert.ReferenceIdeal.Step.b54 j s := by
  unfold Cert.ReferenceIdeal.Step.b54
  rw [← al_45 h, h.f_8]
  try rfl
set_option maxRecDepth 8192 in
theorem al_55 (h : Holds V0 s j) : (broadcastInDim S1x1 ![1] bcast_S1_S1x1_1 (V0 (Proc.devRef .tc main_v5_9)) : (Proc.devRef .tc main_while0b_v52 : DevRef τ sig).ty.Contents (Elt F)) = Cert.ReferenceIdeal.Step.b55 j s := by
  unfold Cert.ReferenceIdeal.Step.b55
  rw [h.f_9]
  try rfl
set_option maxRecDepth 8192 in
theorem al_56 (h : Holds V0 s j) : (broadcastInDim S64x1 ![0, 1] bcast_S1x1_S64x1_0_1 (broadcastInDim S1x1 ![1] bcast_S1_S1x1_1 (V0 (Proc.devRef .tc main_v5_9))) : (Proc.devRef .tc main_while0b_v53 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (res_main_while0b_v54 V0 : (Proc.devRef .tc main_while0b_v54 : DevRef τ sig).ty.Contents (Elt F)) = Cert.ReferenceIdeal.Step.b57 j s := by
  unfold res_main_while0b_v54 Cert.ReferenceIdeal.Step.b57
  rw [← al_54 h, ← al_56 h]
  try rfl
set_option maxRecDepth 8192 in
theorem al_58 (h : Holds V0 s j) : (res_main_while0b_call1_cst V0 : (Proc.devRef .tc main_while0b_call1_cst : DevRef τ sig).ty.Contents (Elt F)) = Cert.ReferenceIdeal.Step.b58 j s := by
  unfold res_main_while0b_call1_cst Cert.ReferenceIdeal.Step.b58
  rfl
set_option maxRecDepth 8192 in
theorem al_59 (h : Holds V0 s j) : (broadcastInDim S64x1 ![] bcast_S_S64x1 (res_main_while0b_call1_cst V0) : (Proc.devRef .tc main_while0b_call1_v0 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (maximumf (res_main_while0b_v54 V0) (broadcastInDim S64x1 ![] bcast_S_S64x1 (res_main_while0b_call1_cst V0)) : (Proc.devRef .tc main_while0b_call1_v1 : DevRef τ sig).ty.Contents (Elt F)) = Cert.ReferenceIdeal.Step.b60 j s := by
  unfold Cert.ReferenceIdeal.Step.b60
  rw [← al_57 h, ← al_59 h]
  try rfl
set_option maxRecDepth 8192 in
theorem al_61 (h : Holds V0 s j) : (broadcastInDim S64x1 ![] bcast_S_S64x1 (res_main_while0b_call1_cst V0) : (Proc.devRef .tc main_while0b_call1_v2 : DevRef τ sig).ty.Contents (Elt F)) = Cert.ReferenceIdeal.Step.b61 j s := by
  unfold Cert.ReferenceIdeal.Step.b61
  rw [← al_58 h]
  try rfl
set_option maxRecDepth 8192 in
theorem al_62 (h : Holds V0 s j) : (res_main_while0b_call1_v3 V0 : (Proc.devRef .tc main_while0b_call1_v3 : DevRef τ sig).ty.Contents (Elt F)) = Cert.ReferenceIdeal.Step.b62 j s := by
  unfold res_main_while0b_call1_v3 Cert.ReferenceIdeal.Step.b62
  rw [← al_57 h, ← al_61 h]
  try rfl
set_option maxRecDepth 8192 in
theorem al_63 (h : Holds V0 s j) : (cmpf .une (res_main_while0b_call1_v3 V0) (res_main_while0b_call1_v3 V0) : (Proc.devRef .tc main_while0b_call1_v4 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (broadcastInDim S64x1 ![] bcast_S_S64x1 (res_main_while0b_call1_cst V0) : (Proc.devRef .tc main_while0b_call1_v5 : DevRef τ sig).ty.Contents (Elt F)) = Cert.ReferenceIdeal.Step.b64 j s := by
  unfold Cert.ReferenceIdeal.Step.b64
  rw [← al_58 h]
  try rfl
set_option maxRecDepth 8192 in
theorem al_65 (h : Holds V0 s j) : (addf (res_main_while0b_v54 V0) (broadcastInDim S64x1 ![] bcast_S_S64x1 (res_main_while0b_call1_cst V0)) : (Proc.devRef .tc main_while0b_call1_v6 : DevRef τ sig).ty.Contents (Elt F)) = Cert.ReferenceIdeal.Step.b65 j s := by
  unfold Cert.ReferenceIdeal.Step.b65
  rw [← al_57 h, ← al_64 h]
  try rfl
set_option maxRecDepth 8192 in
theorem al_66 (h : Holds V0 s j) : (Host.absf (res_main_while0b_call1_v3 V0) : (Proc.devRef .tc main_while0b_call1_v7 : DevRef τ sig).ty.Contents (Elt F)) = Cert.ReferenceIdeal.Step.b66 j s := by
  unfold Cert.ReferenceIdeal.Step.b66
  rw [← al_62 h]
  try rfl
set_option maxRecDepth 8192 in
theorem al_67 (h : Holds V0 s j) : (Host.negf (Host.absf (res_main_while0b_call1_v3 V0)) : (Proc.devRef .tc main_while0b_call1_v8 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (Host.exp (Host.negf (Host.absf (res_main_while0b_call1_v3 V0))) : (Proc.devRef .tc main_while0b_call1_v9 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (Host.log1p (Host.exp (Host.negf (Host.absf (res_main_while0b_call1_v3 V0)))) : (Proc.devRef .tc main_while0b_call1_v10 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (addf (maximumf (res_main_while0b_v54 V0) (broadcastInDim S64x1 ![] bcast_S_S64x1 (res_main_while0b_call1_cst V0))) (Host.log1p (Host.exp (Host.negf (Host.absf (res_main_while0b_call1_v3 V0))))) : (Proc.devRef .tc main_while0b_call1_v11 : DevRef τ sig).ty.Contents (Elt F)) = Cert.ReferenceIdeal.Step.b70 j s := by
  unfold Cert.ReferenceIdeal.Step.b70
  rw [← al_60 h, ← al_69 h]
  try rfl
set_option maxRecDepth 8192 in
theorem al_71 (h : Holds V0 s j) : (select (cmpf .une (res_main_while0b_call1_v3 V0) (res_main_while0b_call1_v3 V0)) (addf (res_main_while0b_v54 V0) (broadcastInDim S64x1 ![] bcast_S_S64x1 (res_main_while0b_call1_cst V0))) (addf (maximumf (res_main_while0b_v54 V0) (broadcastInDim S64x1 ![] bcast_S_S64x1 (res_main_while0b_call1_cst V0))) (Host.log1p (Host.exp (Host.negf (Host.absf (res_main_while0b_call1_v3 V0)))))) : (Proc.devRef .tc main_while0b_v55 : DevRef τ sig).ty.Contents (Elt F)) = Cert.ReferenceIdeal.Step.b71 j s := by
  unfold Cert.ReferenceIdeal.Step.b71
  rw [← al_63 h, ← al_65 h, ← al_70 h]
  try rfl
set_option maxRecDepth 8192 in
theorem al_72 (h : Holds V0 s j) : (Host.dotGeneral dot_S64x512_S512x64_S64x64_1_0_0_1_n_n none (res_main_while0b_v42 V0) (V0 (Proc.devRef .tc main_v5_10)) : (Proc.devRef .tc main_while0b_v56 : DevRef τ sig).ty.Contents (Elt F)) = Cert.ReferenceIdeal.Step.b72 j s := by
  unfold Cert.ReferenceIdeal.Step.b72
  rw [← al_45 h, h.f_10]
  try rfl
set_option maxRecDepth 8192 in
theorem al_73 (h : Holds V0 s j) : (broadcastInDim S1x64 ![1] bcast_S64_S1x64_1 (V0 (Proc.devRef .tc main_v5_11)) : (Proc.devRef .tc main_while0b_v57 : DevRef τ sig).ty.Contents (Elt F)) = Cert.ReferenceIdeal.Step.b73 j s := by
  unfold Cert.ReferenceIdeal.Step.b73
  rw [h.f_11]
  try rfl
set_option maxRecDepth 8192 in
theorem al_74 (h : Holds V0 s j) : (broadcastInDim S64x64 ![0, 1] bcast_S1x64_S64x64_0_1 (broadcastInDim S1x64 ![1] bcast_S64_S1x64_1 (V0 (Proc.devRef .tc main_v5_11))) : (Proc.devRef .tc main_while0b_v58 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (addf (Host.dotGeneral dot_S64x512_S512x64_S64x64_1_0_0_1_n_n none (res_main_while0b_v42 V0) (V0 (Proc.devRef .tc main_v5_10))) (broadcastInDim S64x64 ![0, 1] bcast_S1x64_S64x64_0_1 (broadcastInDim S1x64 ![1] bcast_S64_S1x64_1 (V0 (Proc.devRef .tc main_v5_11)))) : (Proc.devRef .tc main_while0b_v59 : DevRef τ sig).ty.Contents (Elt F)) = Cert.ReferenceIdeal.Step.b75 j s := by
  unfold Cert.ReferenceIdeal.Step.b75
  rw [← al_72 h, ← al_74 h]
  try rfl
set_option maxRecDepth 8192 in
theorem al_76 (h : Holds V0 s j) : (Host.dotGeneral dot_S64x2048x64_S64x64_S64x2048_2_1_1_n_0_0 none (V0 (Proc.devRef .tc main_v5_15)) (res_main_while0b_v50 V0) : (Proc.devRef .tc main_while0b_v60 : DevRef τ sig).ty.Contents (Elt F)) = Cert.ReferenceIdeal.Step.b76 j s := by
  unfold Cert.ReferenceIdeal.Step.b76
  rw [← al_53 h, h.f_15]
  try rfl
set_option maxRecDepth 8192 in
theorem al_77 (h : Holds V0 s j) : (mulf (V0 (Proc.devRef .tc main_v5_15)) (V0 (Proc.devRef .tc main_v5_15)) : (Proc.devRef .tc main_while0b_call2_v0 : DevRef τ sig).ty.Contents (Elt F)) = Cert.ReferenceIdeal.Step.b77 j s := by
  unfold Cert.ReferenceIdeal.Step.b77
  rw [h.f_15]
  try rfl
set_option maxRecDepth 8192 in
theorem al_78 (h : Holds V0 s j) : (constant S_ .f32 0x00000000#32 : (Proc.devRef .tc main_while0b_call2_cst : DevRef τ sig).ty.Contents (Elt F)) = Cert.ReferenceIdeal.Step.b78 j s := by
  unfold Cert.ReferenceIdeal.Step.b78
  rfl
set_option maxRecDepth 8192 in
theorem al_79 (h : Holds V0 s j) : (Host.reduceAdd (mulf (V0 (Proc.devRef .tc main_v5_15)) (V0 (Proc.devRef .tc main_v5_15))) (constant S_ .f32 0x00000000#32) reducesTo_S64x2048x64_S64x2048_d2 h_S_ : (Proc.devRef .tc main_while0b_call2_v1 : DevRef τ sig).ty.Contents (Elt F)) = Cert.ReferenceIdeal.Step.b79 j s := by
  unfold Cert.ReferenceIdeal.Step.b79
  rw [← al_77 h, ← al_78 h]
  try rfl
set_option maxRecDepth 8192 in
theorem al_80 (h : Holds V0 s j) : (Host.sqrt (Host.reduceAdd (mulf (V0 (Proc.devRef .tc main_v5_15)) (V0 (Proc.devRef .tc main_v5_15))) (constant S_ .f32 0x00000000#32) reducesTo_S64x2048x64_S64x2048_d2 h_S_) : (Proc.devRef .tc main_while0b_v61 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (constant S_ .f32 0x322BCC77#32 : (Proc.devRef .tc main_while0b_cst_29 : DevRef τ sig).ty.Contents (Elt F)) = Cert.ReferenceIdeal.Step.b81 j s := by
  unfold Cert.ReferenceIdeal.Step.b81
  rfl
set_option maxRecDepth 8192 in
theorem al_82 (h : Holds V0 s j) : (broadcastInDim S64x2048 ![] bcast_S_S64x2048 (constant S_ .f32 0x322BCC77#32) : (Proc.devRef .tc main_while0b_v62 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (maximumf (Host.sqrt (Host.reduceAdd (mulf (V0 (Proc.devRef .tc main_v5_15)) (V0 (Proc.devRef .tc main_v5_15))) (constant S_ .f32 0x00000000#32) reducesTo_S64x2048x64_S64x2048_d2 h_S_)) (broadcastInDim S64x2048 ![] bcast_S_S64x2048 (constant S_ .f32 0x322BCC77#32)) : (Proc.devRef .tc main_while0b_v63 : DevRef τ sig).ty.Contents (Elt F)) = Cert.ReferenceIdeal.Step.b83 j s := by
  unfold Cert.ReferenceIdeal.Step.b83
  rw [← al_80 h, ← al_82 h]
  try rfl
set_option maxRecDepth 8192 in
theorem al_84 (h : Holds V0 s j) : (mulf (res_main_while0b_v50 V0) (res_main_while0b_v50 V0) : (Proc.devRef .tc main_while0b_call3_v0 : DevRef τ sig).ty.Contents (Elt F)) = Cert.ReferenceIdeal.Step.b84 j s := by
  unfold Cert.ReferenceIdeal.Step.b84
  rw [← al_53 h]
  try rfl
set_option maxRecDepth 8192 in
theorem al_85 (h : Holds V0 s j) : (constant S_ .f32 0x00000000#32 : (Proc.devRef .tc main_while0b_call3_cst : DevRef τ sig).ty.Contents (Elt F)) = Cert.ReferenceIdeal.Step.b85 j s := by
  unfold Cert.ReferenceIdeal.Step.b85
  rfl
set_option maxRecDepth 8192 in
theorem al_86 (h : Holds V0 s j) : (Host.reduceAdd (mulf (res_main_while0b_v50 V0) (res_main_while0b_v50 V0)) (constant S_ .f32 0x00000000#32) reducesTo_S64x64_S64_d1 h_S_ : (Proc.devRef .tc main_while0b_call3_v1 : DevRef τ sig).ty.Contents (Elt F)) = Cert.ReferenceIdeal.Step.b86 j s := by
  unfold Cert.ReferenceIdeal.Step.b86
  rw [← al_84 h, ← al_85 h]
  try rfl
set_option maxRecDepth 8192 in
theorem al_87 (h : Holds V0 s j) : (broadcastInDim S64x1 ![0] bcast_S64_S64x1_0 (Host.reduceAdd (mulf (res_main_while0b_v50 V0) (res_main_while0b_v50 V0)) (constant S_ .f32 0x00000000#32) reducesTo_S64x64_S64_d1 h_S_) : (Proc.devRef .tc main_while0b_call3_v2 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (Host.sqrt (broadcastInDim S64x1 ![0] bcast_S64_S64x1_0 (Host.reduceAdd (mulf (res_main_while0b_v50 V0) (res_main_while0b_v50 V0)) (constant S_ .f32 0x00000000#32) reducesTo_S64x64_S64_d1 h_S_)) : (Proc.devRef .tc main_while0b_v64 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (constant S_ .f32 0x322BCC77#32 : (Proc.devRef .tc main_while0b_cst_30 : DevRef τ sig).ty.Contents (Elt F)) = Cert.ReferenceIdeal.Step.b89 j s := by
  unfold Cert.ReferenceIdeal.Step.b89
  rfl
set_option maxRecDepth 8192 in
theorem al_90 (h : Holds V0 s j) : (broadcastInDim S64x1 ![] bcast_S_S64x1 (constant S_ .f32 0x322BCC77#32) : (Proc.devRef .tc main_while0b_v65 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (maximumf (Host.sqrt (broadcastInDim S64x1 ![0] bcast_S64_S64x1_0 (Host.reduceAdd (mulf (res_main_while0b_v50 V0) (res_main_while0b_v50 V0)) (constant S_ .f32 0x00000000#32) reducesTo_S64x64_S64_d1 h_S_))) (broadcastInDim S64x1 ![] bcast_S_S64x1 (constant S_ .f32 0x322BCC77#32)) : (Proc.devRef .tc main_while0b_v66 : DevRef τ sig).ty.Contents (Elt F)) = Cert.ReferenceIdeal.Step.b91 j s := by
  unfold Cert.ReferenceIdeal.Step.b91
  rw [← al_88 h, ← al_90 h]
  try rfl
set_option maxRecDepth 8192 in
theorem al_92 (h : Holds V0 s j) : (broadcastInDim S64x2048 ![0, 1] bcast_S64x1_S64x2048_0_1 (maximumf (Host.sqrt (broadcastInDim S64x1 ![0] bcast_S64_S64x1_0 (Host.reduceAdd (mulf (res_main_while0b_v50 V0) (res_main_while0b_v50 V0)) (constant S_ .f32 0x00000000#32) reducesTo_S64x64_S64_d1 h_S_))) (broadcastInDim S64x1 ![] bcast_S_S64x1 (constant S_ .f32 0x322BCC77#32))) : (Proc.devRef .tc main_while0b_v67 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (mulf (maximumf (Host.sqrt (Host.reduceAdd (mulf (V0 (Proc.devRef .tc main_v5_15)) (V0 (Proc.devRef .tc main_v5_15))) (constant S_ .f32 0x00000000#32) reducesTo_S64x2048x64_S64x2048_d2 h_S_)) (broadcastInDim S64x2048 ![] bcast_S_S64x2048 (constant S_ .f32 0x322BCC77#32))) (broadcastInDim S64x2048 ![0, 1] bcast_S64x1_S64x2048_0_1 (maximumf (Host.sqrt (broadcastInDim S64x1 ![0] bcast_S64_S64x1_0 (Host.reduceAdd (mulf (res_main_while0b_v50 V0) (res_main_while0b_v50 V0)) (constant S_ .f32 0x00000000#32) reducesTo_S64x64_S64_d1 h_S_))) (broadcastInDim S64x1 ![] bcast_S_S64x1 (constant S_ .f32 0x322BCC77#32)))) : (Proc.devRef .tc main_while0b_v68 : DevRef τ sig).ty.Contents (Elt F)) = Cert.ReferenceIdeal.Step.b93 j s := by
  unfold Cert.ReferenceIdeal.Step.b93
  rw [← al_83 h, ← al_92 h]
  try rfl
set_option maxRecDepth 8192 in
theorem al_94 (h : Holds V0 s j) : (Host.divf (Host.dotGeneral dot_S64x2048x64_S64x64_S64x2048_2_1_1_n_0_0 none (V0 (Proc.devRef .tc main_v5_15)) (res_main_while0b_v50 V0)) (mulf (maximumf (Host.sqrt (Host.reduceAdd (mulf (V0 (Proc.devRef .tc main_v5_15)) (V0 (Proc.devRef .tc main_v5_15))) (constant S_ .f32 0x00000000#32) reducesTo_S64x2048x64_S64x2048_d2 h_S_)) (broadcastInDim S64x2048 ![] bcast_S_S64x2048 (constant S_ .f32 0x322BCC77#32))) (broadcastInDim S64x2048 ![0, 1] bcast_S64x1_S64x2048_0_1 (maximumf (Host.sqrt (broadcastInDim S64x1 ![0] bcast_S64_S64x1_0 (Host.reduceAdd (mulf (res_main_while0b_v50 V0) (res_main_while0b_v50 V0)) (constant S_ .f32 0x00000000#32) reducesTo_S64x64_S64_d1 h_S_))) (broadcastInDim S64x1 ![] bcast_S_S64x1 (constant S_ .f32 0x322BCC77#32))))) : (Proc.devRef .tc main_while0b_v69 : DevRef τ sig).ty.Contents (Elt F)) = Cert.ReferenceIdeal.Step.b94 j s := by
  unfold Cert.ReferenceIdeal.Step.b94
  rw [← al_76 h, ← al_93 h]
  try rfl
set_option maxRecDepth 8192 in
theorem al_95 (h : Holds V0 s j) : (broadcastInDim S64x2048 ![0, 1] bcast_S64x1_S64x2048_0_1 (select (cmpf .une (res_main_while0b_call1_v3 V0) (res_main_while0b_call1_v3 V0)) (addf (res_main_while0b_v54 V0) (broadcastInDim S64x1 ![] bcast_S_S64x1 (res_main_while0b_call1_cst V0))) (addf (maximumf (res_main_while0b_v54 V0) (broadcastInDim S64x1 ![] bcast_S_S64x1 (res_main_while0b_call1_cst V0))) (Host.log1p (Host.exp (Host.negf (Host.absf (res_main_while0b_call1_v3 V0))))))) : (Proc.devRef .tc main_while0b_v70 : DevRef τ sig).ty.Contents (Elt F)) = Cert.ReferenceIdeal.Step.b95 j s := by
  unfold Cert.ReferenceIdeal.Step.b95
  rw [← al_71 h]
  try rfl
set_option maxRecDepth 8192 in
theorem al_96 (h : Holds V0 s j) : (res_main_while0b_v71 V0 : (Proc.devRef .tc main_while0b_v71 : DevRef τ sig).ty.Contents (Elt F)) = Cert.ReferenceIdeal.Step.b96 j s := by
  unfold res_main_while0b_v71 Cert.ReferenceIdeal.Step.b96
  rw [← al_95 h, ← al_94 h]
  try rfl
set_option maxRecDepth 8192 in
theorem al_97 (h : Holds V0 s j) : (constant S_ .f32 0xFF800000#32 : (Proc.devRef .tc main_while0b_cst_31 : DevRef τ sig).ty.Contents (Elt F)) = Cert.ReferenceIdeal.Step.b97 j s := by
  unfold Cert.ReferenceIdeal.Step.b97
  rfl
set_option maxRecDepth 8192 in
theorem al_98 (h : Holds V0 s j) : (Host.reduce FloatOps.maximumf (res_main_while0b_v71 V0) (constant S_ .f32 0xFF800000#32) reducesTo_S64x2048_S64_d1 h_S_ : (Proc.devRef .tc main_while0b_v72 : DevRef τ sig).ty.Contents (Elt F)) = Cert.ReferenceIdeal.Step.b98 j s := by
  unfold Cert.ReferenceIdeal.Step.b98
  rw [← al_96 h, ← al_97 h]
  try rfl
set_option maxRecDepth 8192 in
theorem al_99 (h : Holds V0 s j) : (constant S_ .f32 0xFF800000#32 : (Proc.devRef .tc main_while0b_cst_32 : DevRef τ sig).ty.Contents (Elt F)) = Cert.ReferenceIdeal.Step.b99 j s := by
  unfold Cert.ReferenceIdeal.Step.b99
  rfl
set_option maxRecDepth 8192 in
theorem al_100 (h : Holds V0 s j) : (broadcastInDim S64 ![] bcast_S_S64 (constant S_ .f32 0xFF800000#32) : (Proc.devRef .tc main_while0b_v73 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (maximumf (broadcastInDim S64 ![] bcast_S_S64 (constant S_ .f32 0xFF800000#32)) (Host.reduce FloatOps.maximumf (res_main_while0b_v71 V0) (constant S_ .f32 0xFF800000#32) reducesTo_S64x2048_S64_d1 h_S_) : (Proc.devRef .tc main_while0b_v74 : DevRef τ sig).ty.Contents (Elt F)) = Cert.ReferenceIdeal.Step.b101 j s := by
  unfold Cert.ReferenceIdeal.Step.b101
  rw [← al_100 h, ← al_98 h]
  try rfl
set_option maxRecDepth 8192 in
theorem al_102 (h : Holds V0 s j) : (broadcastInDim S64x1 ![0] bcast_S64_S64x1_0 (maximumf (broadcastInDim S64 ![] bcast_S_S64 (constant S_ .f32 0xFF800000#32)) (Host.reduce FloatOps.maximumf (res_main_while0b_v71 V0) (constant S_ .f32 0xFF800000#32) reducesTo_S64x2048_S64_d1 h_S_)) : (Proc.devRef .tc main_while0b_v75 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (broadcastInDim S64x2048 ![0, 1] bcast_S64x1_S64x2048_0_1 (broadcastInDim S64x1 ![0] bcast_S64_S64x1_0 (maximumf (broadcastInDim S64 ![] bcast_S_S64 (constant S_ .f32 0xFF800000#32)) (Host.reduce FloatOps.maximumf (res_main_while0b_v71 V0) (constant S_ .f32 0xFF800000#32) reducesTo_S64x2048_S64_d1 h_S_))) : (Proc.devRef .tc main_while0b_v76 : DevRef τ sig).ty.Contents (Elt F)) = Cert.ReferenceIdeal.Step.b103 j s := by
  unfold Cert.ReferenceIdeal.Step.b103
  rw [← al_102 h]
  try rfl
set_option maxRecDepth 8192 in
theorem al_104 (h : Holds V0 s j) : (subf (res_main_while0b_v71 V0) (broadcastInDim S64x2048 ![0, 1] bcast_S64x1_S64x2048_0_1 (broadcastInDim S64x1 ![0] bcast_S64_S64x1_0 (maximumf (broadcastInDim S64 ![] bcast_S_S64 (constant S_ .f32 0xFF800000#32)) (Host.reduce FloatOps.maximumf (res_main_while0b_v71 V0) (constant S_ .f32 0xFF800000#32) reducesTo_S64x2048_S64_d1 h_S_)))) : (Proc.devRef .tc main_while0b_v77 : DevRef τ sig).ty.Contents (Elt F)) = Cert.ReferenceIdeal.Step.b104 j s := by
  unfold Cert.ReferenceIdeal.Step.b104
  rw [← al_96 h, ← al_103 h]
  try rfl
set_option maxRecDepth 8192 in
theorem al_105 (h : Holds V0 s j) : (res_main_while0b_v78 V0 : (Proc.devRef .tc main_while0b_v78 : DevRef τ sig).ty.Contents (Elt F)) = Cert.ReferenceIdeal.Step.b105 j s := by
  unfold res_main_while0b_v78 Cert.ReferenceIdeal.Step.b105
  rw [← al_104 h]
  try rfl
set_option maxRecDepth 8192 in
theorem al_106 (h : Holds V0 s j) : (constant S_ .f32 0x00000000#32 : (Proc.devRef .tc main_while0b_cst_33 : DevRef τ sig).ty.Contents (Elt F)) = Cert.ReferenceIdeal.Step.b106 j s := by
  unfold Cert.ReferenceIdeal.Step.b106
  rfl
set_option maxRecDepth 8192 in
theorem al_107 (h : Holds V0 s j) : (Host.reduceAdd (res_main_while0b_v78 V0) (constant S_ .f32 0x00000000#32) reducesTo_S64x2048_S64_d1 h_S_ : (Proc.devRef .tc main_while0b_v79 : DevRef τ sig).ty.Contents (Elt F)) = Cert.ReferenceIdeal.Step.b107 j s := by
  unfold Cert.ReferenceIdeal.Step.b107
  rw [← al_105 h, ← al_106 h]
  try rfl
set_option maxRecDepth 8192 in
theorem al_108 (h : Holds V0 s j) : (broadcastInDim S64x1 ![0] bcast_S64_S64x1_0 (Host.reduceAdd (res_main_while0b_v78 V0) (constant S_ .f32 0x00000000#32) reducesTo_S64x2048_S64_d1 h_S_) : (Proc.devRef .tc main_while0b_v80 : DevRef τ sig).ty.Contents (Elt F)) = Cert.ReferenceIdeal.Step.b108 j s := by
  unfold Cert.ReferenceIdeal.Step.b108
  rw [← al_107 h]
  try rfl
set_option maxRecDepth 8192 in
theorem al_109 (h : Holds V0 s j) : (broadcastInDim S64x2048 ![0, 1] bcast_S64x1_S64x2048_0_1 (broadcastInDim S64x1 ![0] bcast_S64_S64x1_0 (Host.reduceAdd (res_main_while0b_v78 V0) (constant S_ .f32 0x00000000#32) reducesTo_S64x2048_S64_d1 h_S_)) : (Proc.devRef .tc main_while0b_v81 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (res_main_while0b_v82 V0 : (Proc.devRef .tc main_while0b_v82 : DevRef τ sig).ty.Contents (Elt F)) = Cert.ReferenceIdeal.Step.b110 j s := by
  unfold res_main_while0b_v82 Cert.ReferenceIdeal.Step.b110
  rw [← al_105 h, ← al_109 h]
  try rfl
set_option maxRecDepth 8192 in
theorem al_111 (h : Holds V0 s j) : (res_main_while0b_v83 V0 : (Proc.devRef .tc main_while0b_v83 : DevRef τ sig).ty.Contents (Elt F)) = Cert.ReferenceIdeal.Step.b111 j s := by
  unfold res_main_while0b_v83 Cert.ReferenceIdeal.Step.b111
  rw [← al_53 h, ← al_75 h]
  try rfl
set_option maxRecDepth 8192 in
theorem al_112 (h : Holds V0 s j) : (mulf (res_main_while0b_v83 V0) (res_main_while0b_v83 V0) : (Proc.devRef .tc main_while0b_v84 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (constant S_ .f32 0x00000000#32 : (Proc.devRef .tc main_while0b_cst_34 : DevRef τ sig).ty.Contents (Elt F)) = Cert.ReferenceIdeal.Step.b113 j s := by
  unfold Cert.ReferenceIdeal.Step.b113
  rfl
set_option maxRecDepth 8192 in
theorem al_114 (h : Holds V0 s j) : (Host.reduceAdd (mulf (res_main_while0b_v83 V0) (res_main_while0b_v83 V0)) (constant S_ .f32 0x00000000#32) reducesTo_S64x64_S_d0_1 h_S_ : (Proc.devRef .tc main_while0b_v85 : DevRef τ sig).ty.Contents (Elt F)) = Cert.ReferenceIdeal.Step.b114 j s := by
  unfold Cert.ReferenceIdeal.Step.b114
  rw [← al_112 h, ← al_113 h]
  try rfl
set_option maxRecDepth 8192 in
theorem al_115 (h : Holds V0 s j) : (constant S_ .f32 0x45800000#32 : (Proc.devRef .tc main_while0b_cst_35 : DevRef τ sig).ty.Contents (Elt F)) = Cert.ReferenceIdeal.Step.b115 j s := by
  unfold Cert.ReferenceIdeal.Step.b115
  rfl
set_option maxRecDepth 8192 in
theorem al_116 (h : Holds V0 s j) : (Host.divf (Host.reduceAdd (mulf (res_main_while0b_v83 V0) (res_main_while0b_v83 V0)) (constant S_ .f32 0x00000000#32) reducesTo_S64x64_S_d0_1 h_S_) (constant S_ .f32 0x45800000#32) : (Proc.devRef .tc main_while0b_v86 : DevRef τ sig).ty.Contents (Elt F)) = Cert.ReferenceIdeal.Step.b116 j s := by
  unfold Cert.ReferenceIdeal.Step.b116
  rw [← al_114 h, ← al_115 h]
  try rfl
set_option maxRecDepth 8192 in
theorem al_117 (h : Holds V0 s j) : (addf (V0 (Proc.devRef .tc main_v5_17)) (Host.divf (Host.reduceAdd (mulf (res_main_while0b_v83 V0) (res_main_while0b_v83 V0)) (constant S_ .f32 0x00000000#32) reducesTo_S64x64_S_d0_1 h_S_) (constant S_ .f32 0x45800000#32)) : (Proc.devRef .tc main_while0b_v87 : DevRef τ sig).ty.Contents (Elt F)) = Cert.ReferenceIdeal.Step.b117 j s := by
  unfold Cert.ReferenceIdeal.Step.b117
  rw [← al_116 h, h.f_17]
  try rfl
set_option maxRecDepth 8192 in
theorem al_118 (h : Holds V0 s j) : (broadcastInDim S64x2048x1 ![0, 1] bcast_S64x2048_S64x2048x1_0_1 (res_main_while0b_v82 V0) : (Proc.devRef .tc main_while0b_v88 : DevRef τ sig).ty.Contents (Elt F)) = Cert.ReferenceIdeal.Step.b118 j s := by
  unfold Cert.ReferenceIdeal.Step.b118
  rw [← al_110 h]
  try rfl
set_option maxRecDepth 8192 in
theorem al_119 (h : Holds V0 s j) : (broadcastInDim S64x1x64 ![0, 2] bcast_S64x64_S64x1x64_0_2 (res_main_while0b_v50 V0) : (Proc.devRef .tc main_while0b_v89 : DevRef τ sig).ty.Contents (Elt F)) = Cert.ReferenceIdeal.Step.b119 j s := by
  unfold Cert.ReferenceIdeal.Step.b119
  rw [← al_53 h]
  try rfl
set_option maxRecDepth 8192 in
theorem al_120 (h : Holds V0 s j) : (broadcastInDim S64x2048x64 ![0, 1, 2] bcast_S64x2048x1_S64x2048x64_0_1_2 (broadcastInDim S64x2048x1 ![0, 1] bcast_S64x2048_S64x2048x1_0_1 (res_main_while0b_v82 V0)) : (Proc.devRef .tc main_while0b_v90 : DevRef τ sig).ty.Contents (Elt F)) = Cert.ReferenceIdeal.Step.b120 j s := by
  unfold Cert.ReferenceIdeal.Step.b120
  rw [← al_118 h]
  try rfl
set_option maxRecDepth 8192 in
theorem al_121 (h : Holds V0 s j) : (broadcastInDim S64x2048x64 ![0, 1, 2] bcast_S64x1x64_S64x2048x64_0_1_2 (broadcastInDim S64x1x64 ![0, 2] bcast_S64x64_S64x1x64_0_2 (res_main_while0b_v50 V0)) : (Proc.devRef .tc main_while0b_v91 : DevRef τ sig).ty.Contents (Elt F)) = Cert.ReferenceIdeal.Step.b121 j s := by
  unfold Cert.ReferenceIdeal.Step.b121
  rw [← al_119 h]
  try rfl
set_option maxRecDepth 8192 in
theorem al_122 (h : Holds V0 s j) : (mulf (broadcastInDim S64x2048x64 ![0, 1, 2] bcast_S64x2048x1_S64x2048x64_0_1_2 (broadcastInDim S64x2048x1 ![0, 1] bcast_S64x2048_S64x2048x1_0_1 (res_main_while0b_v82 V0))) (broadcastInDim S64x2048x64 ![0, 1, 2] bcast_S64x1x64_S64x2048x64_0_1_2 (broadcastInDim S64x1x64 ![0, 2] bcast_S64x64_S64x1x64_0_2 (res_main_while0b_v50 V0))) : (Proc.devRef .tc main_while0b_v92 : DevRef τ sig).ty.Contents (Elt F)) = Cert.ReferenceIdeal.Step.b122 j s := by
  unfold Cert.ReferenceIdeal.Step.b122
  rw [← al_120 h, ← al_121 h]
  try rfl
set_option maxRecDepth 8192 in
theorem al_123 (h : Holds V0 s j) : (res_main_while0b_v93 V0 : (Proc.devRef .tc main_while0b_v93 : DevRef τ sig).ty.Contents (Elt F)) = Cert.ReferenceIdeal.Step.b123 j s := by
  unfold res_main_while0b_v93 Cert.ReferenceIdeal.Step.b123
  rw [← al_122 h, h.f_15]
  try rfl
set_option maxRecDepth 8192 in
theorem al_124 (h : Holds V0 s j) : (Host.dotGeneral dot_S64x2048_S64x2048x64_S64x64_1_1_n_2_0_0 none (res_main_while0b_v82 V0) (res_main_while0b_v93 V0) : (Proc.devRef .tc main_while0b_v94 : DevRef τ sig).ty.Contents (Elt F)) = Cert.ReferenceIdeal.Step.b124 j s := by
  unfold Cert.ReferenceIdeal.Step.b124
  rw [← al_110 h, ← al_123 h]
  try rfl
set_option maxRecDepth 8192 in
theorem al_125 (h : Holds V0 s j) : (broadcastInDim S64x64x1 ![0, 1] bcast_S64x64_S64x64x1_0_1 (Host.dotGeneral dot_S64x2048_S64x2048x64_S64x64_1_1_n_2_0_0 none (res_main_while0b_v82 V0) (res_main_while0b_v93 V0)) : (Proc.devRef .tc main_while0b_v95 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (broadcastInDim S64x64x4 ![0, 1, 2] bcast_S64x64x1_S64x64x4_0_1_2 (broadcastInDim S64x64x1 ![0, 1] bcast_S64x64_S64x64x1_0_1 (Host.dotGeneral dot_S64x2048_S64x2048x64_S64x64_1_1_n_2_0_0 none (res_main_while0b_v82 V0) (res_main_while0b_v93 V0))) : (Proc.devRef .tc main_while0b_v96 : DevRef τ sig).ty.Contents (Elt F)) = Cert.ReferenceIdeal.Step.b126 j s := by
  unfold Cert.ReferenceIdeal.Step.b126
  rw [← al_125 h]
  try rfl
set_option maxRecDepth 8192 in
theorem al_127 (h : Holds V0 s j) : (broadcastInDim S1x64x256 ![1, 2] bcast_S64x256_S1x64x256_1_2 (addf (Host.dotGeneral dot_S64x512_S512x256_S64x256_1_0_0_1_n_n none (res_main_while0b_v42 V0) (V0 (Proc.devRef .tc main_v5_4))) (broadcastInDim S64x256 ![0, 1] bcast_S1x256_S64x256_0_1 (broadcastInDim S1x256 ![1] bcast_S256_S1x256_1 (V0 (Proc.devRef .tc main_v5_5))))) : (Proc.devRef .tc main_while0b_call4_v0 : DevRef τ sig).ty.Contents (Elt F)) = Cert.ReferenceIdeal.Step.b127 j s := by
  unfold Cert.ReferenceIdeal.Step.b127
  rw [← al_49 h]
  try rfl
set_option maxRecDepth 8192 in
theorem al_128 (h : Holds V0 s j) : (constantI S_ 32 0#32 : (Proc.devRef .tc main_while0b_call4_c : DevRef τ sig).ty.Contents (Elt F)) = Cert.ReferenceIdeal.Step.b128 j s := by
  unfold Cert.ReferenceIdeal.Step.b128
  rfl
set_option maxRecDepth 8192 in
theorem al_129 (h : Holds V0 s j) : (constantI S_ 32 0#32 : (Proc.devRef .tc main_while0b_call4_c_0 : DevRef τ sig).ty.Contents (Elt F)) = Cert.ReferenceIdeal.Step.b129 j s := by
  unfold Cert.ReferenceIdeal.Step.b129
  rfl
set_option maxRecDepth 8192 in
theorem al_130 (h : Holds V0 s j) : (Host.dynamicUpdateSlice (V0 (Proc.devRef .tc main_v5_18)) (broadcastInDim S1x64x256 ![1, 2] bcast_S64x256_S1x64x256_1_2 (addf (Host.dotGeneral dot_S64x512_S512x256_S64x256_1_0_0_1_n_n none (res_main_while0b_v42 V0) (V0 (Proc.devRef .tc main_v5_4))) (broadcastInDim S64x256 ![0, 1] bcast_S1x256_S64x256_0_1 (broadcastInDim S1x256 ![1] bcast_S256_S1x256_1 (V0 (Proc.devRef .tc main_v5_5)))))) (fun k => (((![V0 (Proc.devRef .tc main_v5_12), constantI S_ 32 0#32, constantI S_ 32 0#32] : Fin 3 → (⟨S_, .i32⟩ : BufTy).Contents (Elt F))) k (Shape.Idx.first h_S_)).toInt) updateFits_S512x64x256_S1x64x256 : (Proc.devRef .tc main_while0b_v97 : DevRef τ sig).ty.Contents (Elt F)) = Cert.ReferenceIdeal.Step.b130 j s := by
  unfold Cert.ReferenceIdeal.Step.b130
  rw [← al_127 h, ← al_128 h, ← al_129 h, h.f_18, h.n_12]
  try rfl

/-! One trip's step of the carried values is `step`, field by field; a counter steps to the next number. -/

theorem step_13 (h : Holds V0 s j) : step_main_v5_13 V0 = (step j s).main_v5_13 := by
  unfold step_main_v5_13 Cert.ReferenceIdeal.Step.step
  show id (res_main_while0b_v42 V0) = _
  rw [al_45 h]
  try rfl
theorem step_14 (h : Holds V0 s j) : step_main_v5_14 V0 = (step j s).main_v5_14 := by
  unfold step_main_v5_14 Cert.ReferenceIdeal.Step.step
  show id (res_main_while0b_v34 V0) = _
  rw [al_35 h]
  try rfl
theorem step_15 (h : Holds V0 s j) : step_main_v5_15 V0 = (step j s).main_v5_15 := by
  unfold step_main_v5_15 Cert.ReferenceIdeal.Step.step
  show id (res_main_while0b_v93 V0) = _
  rw [al_123 h]
  try rfl
theorem step_16 (h : Holds V0 s j) : step_main_v5_16 V0 = (step j s).main_v5_16 := by
  unfold step_main_v5_16 Cert.ReferenceIdeal.Step.step
  show id (broadcastInDim S64x64x4 ![0, 1, 2] bcast_S64x64x1_S64x64x4_0_1_2 (broadcastInDim S64x64x1 ![0, 1] bcast_S64x64_S64x64x1_0_1 (Host.dotGeneral dot_S64x2048_S64x2048x64_S64x64_1_1_n_2_0_0 none (res_main_while0b_v82 V0) (res_main_while0b_v93 V0)))) = _
  rw [al_126 h]
  try rfl
theorem step_17 (h : Holds V0 s j) : step_main_v5_17 V0 = (step j s).main_v5_17 := by
  unfold step_main_v5_17 Cert.ReferenceIdeal.Step.step
  show id (addf (V0 (Proc.devRef .tc main_v5_17)) (Host.divf (Host.reduceAdd (mulf (res_main_while0b_v83 V0) (res_main_while0b_v83 V0)) (constant S_ .f32 0x00000000#32) reducesTo_S64x64_S_d0_1 h_S_) (constant S_ .f32 0x45800000#32))) = _
  rw [al_117 h]
  try rfl
theorem step_18 (h : Holds V0 s j) : step_main_v5_18 V0 = (step j s).main_v5_18 := by
  unfold step_main_v5_18 Cert.ReferenceIdeal.Step.step
  show id (Host.dynamicUpdateSlice (V0 (Proc.devRef .tc main_v5_18)) (broadcastInDim S1x64x256 ![1, 2] bcast_S64x256_S1x64x256_1_2 (addf (Host.dotGeneral dot_S64x512_S512x256_S64x256_1_0_0_1_n_n none (res_main_while0b_v42 V0) (V0 (Proc.devRef .tc main_v5_4))) (broadcastInDim S64x256 ![0, 1] bcast_S1x256_S64x256_0_1 (broadcastInDim S1x256 ![1] bcast_S256_S1x256_1 (V0 (Proc.devRef .tc main_v5_5)))))) (fun k => (((![V0 (Proc.devRef .tc main_v5_12), constantI S_ 32 0#32, constantI S_ 32 0#32] : Fin 3 → (⟨S_, .i32⟩ : BufTy).Contents (Elt F))) k (Shape.Idx.first h_S_)).toInt) updateFits_S512x64x256_S1x64x256) = _
  exact al_130 h
theorem step_12 (h : Holds V0 s j) : step_main_v5_12 V0 = constantI S_ 32 (BitVec.ofNat 32 (j + 1)) := by
  unfold step_main_v5_12
  rw [h.n_12]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_13 := (STEP_main_v5_13 V0).trans (step_13 h)
  f_14 := (STEP_main_v5_14 V0).trans (step_14 h)
  f_15 := (STEP_main_v5_15 V0).trans (step_15 h)
  f_16 := (STEP_main_v5_16 V0).trans (step_16 h)
  f_17 := (STEP_main_v5_17 V0).trans (step_17 h)
  f_18 := (STEP_main_v5_18 V0).trans (step_18 h)
  n_12 := (STEP_main_v5_12 V0).trans (step_12 h)
  f_0 := (STEP_main_v5_0 V0).trans h.f_0
  f_1 := (STEP_main_v5_1 V0).trans h.f_1
  f_2 := (STEP_main_v5_2 V0).trans h.f_2
  f_3 := (STEP_main_v5_3 V0).trans h.f_3
  f_4 := (STEP_main_v5_4 V0).trans h.f_4
  f_5 := (STEP_main_v5_5 V0).trans h.f_5
  f_6 := (STEP_main_v5_6 V0).trans h.f_6
  f_7 := (STEP_main_v5_7 V0).trans h.f_7
  f_8 := (STEP_main_v5_8 V0).trans h.f_8
  f_9 := (STEP_main_v5_9 V0).trans h.f_9
  f_10 := (STEP_main_v5_10 V0).trans h.f_10
  f_11 := (STEP_main_v5_11 V0).trans h.f_11

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v5_18) = (it c 512).main_v5_18
      ∧ r.2.mem ((c.tc : Thread nD τ).loc main_v5_17) = (it c 512).main_v5_17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 512
    ⟨(h c).1.trans hk.f_18, (h c).2.1.trans hk.f_17, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.Trips

end
-- ==== Proof.Reals.lean ====
/- Extended reals that are real numbers: the operations the two programs use keep them, and on them products distribute
   over sums. Then the laws the two programs' memories need: a softmax of real scores is real, and a sum of squares moves
   with its terms. -/
module

public import Idealize.ShloMosaic.Lib.Pointwise

@[expose] public section

noncomputable section

namespace Cert.Reals

open Idealize.ShloMosaic

/-- The extended real is a real number. -/
def IsR (x : EReal) : Prop := ∃ a : ℝ, x = (a : EReal)

theorem isR_coe (a : ℝ) : IsR (a : EReal) := ⟨a, rfl⟩
theorem isR_zero : IsR 0 := ⟨0, rfl⟩
theorem isR_one : IsR 1 := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem isR_sum {ι : Type*} (s : Finset ι) {f : ι → EReal} (h : ∀ i ∈ s, IsR (f i)) : IsR (∑ i ∈ s, f i) := by
  classical
  induction s using Finset.induction_on with
  | empty => exact ⟨0, by simp⟩
  | insert i s hi ih =>
    rw [Finset.sum_insert hi]
    exact (h i (Finset.mem_insert_self i s)).add (ih fun j hj => h j (Finset.mem_insert_of_mem hj))

theorem isR_sum_univ {ι : Type*} [Fintype ι] {f : ι → EReal} (h : ∀ i, IsR (f i)) : IsR (∑ i, f i) :=
  isR_sum _ fun i _ => h i

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real factor moves out of a sum of reals. -/
theorem mul_sum_real {ι : Type*} (s : Finset ι) {x : EReal} {f : ι → EReal} (hx : IsR x) (hf : ∀ i, IsR (f i)) :
    x * ∑ i ∈ s, f i = ∑ i ∈ s, x * f i := by
  obtain ⟨a, rfl⟩ := hx
  choose g hg using hf
  simp only [hg, ← EReal.coe_mul, ← coe_sum, Finset.mul_sum]

theorem isR_logistic (x : EReal) : IsR (Ideal.logistic x) := by
  induction x with
  | bot => rw [Ideal.logistic_bot]; exact isR_zero
  | top => rw [Ideal.logistic_top]; exact isR_one
  | coe r => rw [Ideal.logistic_coe]; exact isR_coe _

theorem isR_tanh (x : EReal) : IsR (Ideal.tanh x) := by
  induction x with
  | bot => rw [Ideal.tanh_bot]; exact isR_one.neg
  | top => rw [Ideal.tanh_top]; exact isR_one
  | coe r => rw [Ideal.tanh_coe]; exact isR_coe _

theorem isR_exp {x : EReal} (hx : IsR x) : IsR (Ideal.exp x) := by
  obtain ⟨a, rfl⟩ := hx; exact ⟨Real.exp a, Ideal.exp_coe a⟩

theorem exp_pos {x : EReal} (hx : IsR x) : 0 < Ideal.exp x := by
  obtain ⟨a, rfl⟩ := hx; rw [Ideal.exp_coe]; exact_mod_cast Real.exp_pos a

theorem isR_sqrt {x : EReal} (hx : IsR x) (h0 : 0 ≤ x) : IsR (Ideal.sqrt x) := by
  obtain ⟨a, rfl⟩ := hx
  rw [Ideal.sqrt_coe, if_neg (not_lt.mpr (by exact_mod_cast h0))]; exact isR_coe _

theorem isR_div {x y : EReal} (hx : IsR x) (hy : IsR y) (h0 : y ≠ 0) : IsR (Ideal.div x y) := by
  obtain ⟨b, rfl⟩ := hy
  rw [Ideal.div_coe (by exact_mod_cast h0)]; exact hx.mul (isR_coe _)

theorem isR_log1p_exp {x : EReal} (hx : IsR x) : IsR (Ideal.log1p (Ideal.exp x)) := by
  obtain ⟨a, rfl⟩ := hx
  have h : (1 : EReal) + ((Real.exp a : ℝ) : EReal) = ((1 + Real.exp a : ℝ) : EReal) := by
    rw [EReal.coe_add, EReal.coe_one]
  rw [Ideal.exp_coe]
  unfold Ideal.log1p
  rw [h, Ideal.log_coe, if_neg (not_le.mpr (by positivity))]; exact isR_coe _

/-- The greatest of finitely many reals, with the least extended real to start from, is real. -/
theorem isR_fold_max {n : ℕ} (f : Fin (n + 1) → EReal) (hf : ∀ i, IsR (f i)) :
    IsR (Finset.fold max ⊥ f Finset.univ) := by
  have h : ∀ s : Finset (Fin (n + 1)), Finset.fold max ⊥ f s = ⊥ ∨ IsR (Finset.fold max ⊥ f s) := by
    intro s
    classical
    induction s using Finset.induction_on with
    | empty => left; simp
    | insert i s hi ih =>
      right
      rw [Finset.fold_insert hi]
      rcases ih with ih | ih
      · rw [ih, max_bot_right]; exact hf i
      · exact (hf i).max ih
  rcases h Finset.univ with h | h
  · exfalso
    have hle : f 0 ≤ Finset.fold max ⊥ f Finset.univ :=
      (Finset.le_fold_max (f 0)).mpr (Or.inr ⟨0, Finset.mem_univ _, le_rfl⟩)
    obtain ⟨a, ha⟩ := hf 0
    rw [h, ha, le_bot_iff] at hle
    exact EReal.coe_ne_bot a hle
  · exact h

theorem sum_pos {n : ℕ} (f : Fin (n + 1) → EReal) (hf : ∀ i, 0 < f i) : 0 < ∑ i, f i :=
  lt_of_lt_of_le (hf 0) (Finset.single_le_sum (fun i _ => (hf i).le) (Finset.mem_univ 0))

/-- A softmax of real scores is real. -/
theorem isR_softmax {n : ℕ} (f : Fin (n + 1) → EReal) (M : EReal) (hf : ∀ i, IsR (f i)) (hM : IsR M) (q : Fin (n + 1)) :
    IsR (Ideal.div (Ideal.exp (f q - M)) (∑ i, Ideal.exp (f i - M))) :=
  isR_div (isR_exp ((hf q).sub hM)) (isR_sum_univ fun i => isR_exp ((hf i).sub hM))
    (sum_pos _ fun i => exp_pos ((hf i).sub hM)).ne'

theorem mul_self_nonneg' (x : EReal) : 0 ≤ x * x := by
  induction x with
  | bot => simp
  | top => simp
  | coe r => rw [← EReal.coe_mul]; exact_mod_cast mul_self_nonneg r

/-- The sum of squares after a step, from the sum before it. -/
theorem sumsq_step {n : ℕ} (mem key : Fin n → EReal) (w : EReal) (hm : ∀ i, IsR (mem i)) (hk : ∀ i, IsR (key i)) (hw : IsR w) :
    (∑ i, mem i * mem i) + 2 * w * (∑ i, mem i * key i) + w * w * (∑ i, key i * key i)
      = ∑ i, (mem i + w * key i) * (mem i + w * key i) := by
  choose a ha using hm
  choose b hb using hk
  obtain ⟨v, rfl⟩ := hw
  have h2 : (2 : EReal) = ((2 : ℝ) : EReal) := rfl
  simp only [ha, hb, h2, ← EReal.coe_mul, ← EReal.coe_add, ← coe_sum]
  congr 1
  simp only [Finset.mul_sum, ← Finset.sum_add_distrib]
  exact Finset.sum_congr rfl fun i _ => by ring

/-- A quotient by a positive real distributes over a sum of nonnegative terms. -/
theorem div_add_nonneg {x y : EReal} {r : ℝ} (hr : 0 < r) (hx : 0 ≤ x) (hy : 0 ≤ y) :
    Ideal.div (x + y) (r : EReal) = Ideal.div x (r : EReal) + Ideal.div y (r : EReal) := by
  rw [Ideal.div_coe hr.ne', Ideal.div_coe hr.ne', Ideal.div_coe hr.ne', EReal.right_distrib_of_nonneg hx hy]

theorem div_sum_nonneg {ι : Type*} (s : Finset ι) {f : ι → EReal} {r : ℝ} (hr : 0 < r) (hf : ∀ i, 0 ≤ f i) :
    ∑ i ∈ s, Ideal.div (f i) (r : EReal) = Ideal.div (∑ i ∈ s, f i) (r : EReal) := by
  classical
  induction s using Finset.induction_on with
  | empty => rw [Finset.sum_empty, Finset.sum_empty, Ideal.div_coe hr.ne', zero_mul]
  | insert i s hi ih =>
    rw [Finset.sum_insert hi, Finset.sum_insert hi, ih, div_add_nonneg hr (hf i) (Finset.sum_nonneg fun j _ => hf j)]

/-! The float literals the two programs share, as real numbers. -/

theorem lit_two : Ideal.ofBits .f32 0x40000000#32 = 2 := by
  have h : (2 : EReal) = ((2 : ℝ) : EReal) := rfl
  rw [h]
  simp [Ideal.ofBits, Ideal.ieee]
  rw [← EReal.coe_mul]; norm_num

theorem lit_4096 : Ideal.ofBits .f32 0x45800000#32 = ((4096 : ℝ) : EReal) := by
  simp [Ideal.ofBits, Ideal.ieee]
  rw [← EReal.coe_mul]; norm_num

theorem lit_bot : Ideal.ofBits .f32 0xFF800000#32 = ⊥ := by
  simp [Ideal.ofBits, Ideal.ieee]

theorem lit_top : Ideal.ofBits .f32 0x7F800000#32 = ⊤ := by
  simp [Ideal.ofBits, Ideal.ieee]

theorem lit_eps : ∃ e : ℝ, 0 < e ∧ Ideal.ofBits .f32 0x322BCC77#32 = (e : EReal) :=
  by
  simp [Ideal.ofBits, Ideal.ieee]
  exact ⟨11258999 * (2 ^ 50)⁻¹, by positivity, by rw [EReal.coe_mul]⟩

end Cert.Reals

end
-- ==== Proof.Pre.lean ====
/- The precondition, read back: where it returns true, every weight it looks at is a real number. -/
module

public import proofs.«01_k».proof.Pre_weights_finite
public import proofs.«01_k».proof.Proof.Reals
public import Idealize.ShloMosaic.Lib.ReduceAll

@[expose] public section

set_option maxRecDepth 16384

noncomputable section

namespace Cert.Pre_weights_finite

open Idealize.ShloMosaic Cert.Reals

/-- The function's side conditions hold. -/
theorem facts : Facts := by constructor <;> decide

/-- A number whose absolute value lies below infinity is real. -/
theorem real_of_abs_lt {a : EReal} (h : (if max a (-a) < (⊤ : EReal) then 1#1 else 0#1) = 1#1) : IsR a := by
  have h' : max a (-a) < ⊤ := by
    by_contra hn
    rw [if_neg hn] at h
    exact absurd h (by decide)
  induction a using EReal.rec with
  | bot => simp at h'
  | coe r => exact ⟨r, rfl⟩
  | top => simp at h'

/-- One comparison of the function. -/
theorem real_of_cmp {a : EReal}
    (h : FloatOps.cmpf (F := Ideal) (φ := .f32) .olt (FloatOps.absf (F := Ideal) (φ := .f32) a) (Ideal.ofBits .f32 0x7F800000#32) = 1#1) : IsR a := by
  rw [lit_top, Ideal.cmpf_def, Ideal.absf_def] at h
  refine real_of_abs_lt ?_
  by_cases hl : max a (-a) < (⊤ : EReal)
  · exact if_pos hl
  · refine absurd h ?_
    show ¬ BitVec.ofBool (decide (max a (-a) < (⊤ : EReal))) = 1#1
    rw [decide_eq_false hl]
    decide

instance : Subsingleton S_.Idx := ⟨fun a b => funext fun k => k.elim0⟩

variable [Facts]
open Facts

/-- The five groups of weights are real where the function returns true. -/
theorem real_of_fn (a0 : FVec Ideal S512x64x256 .f32) (a1 : FVec Ideal S512x2048 .f32) (a2 : FVec Ideal S512x2048 .f32)
    (a3 : FVec Ideal S2048 .f32) (a4 : FVec Ideal S512x256 .f32) (a5 : FVec Ideal S256 .f32) (a6 : FVec Ideal S512x64 .f32)
    (a7 : FVec Ideal S64 .f32) (a8 : FVec Ideal S512x1 .f32) (a9 : FVec Ideal S1 .f32) (a10 : FVec Ideal S512x64 .f32)
    (a11 : FVec Ideal S64 .f32) (h : fn (F := Ideal) a0 a1 a2 a3 a4 a5 a6 a7 a8 a9 a10 a11 = fun _ => 1#1) :
    (∀ (p : Fin 256) (g : Fin 2048), IsR (a1 (ix2 ⟨256 + p.val, by omega⟩ g))) ∧ (∀ (x : Fin 512) (q : Fin 64), IsR (a6 (ix2 x q)))
      ∧ (∀ q : Fin 64, IsR (a7 (ix1 q))) ∧ (∀ x : Fin 512, IsR (a8 (ix2 x 0))) ∧ IsR (a9 (ix1 0)) := by
  have h0 := congrFun h ix0
  obtain ⟨h1, h9⟩ := IntOp.andi_eq_one.1 h0
  obtain ⟨h2, h8⟩ := IntOp.andi_eq_one.1 h1
  obtain ⟨h3, h7⟩ := IntOp.andi_eq_one.1 h2
  obtain ⟨h4, h6⟩ := IntOp.andi_eq_one.1 h3
  refine ⟨fun p g => ?_, fun x q => ?_, fun q => ?_, fun x => ?_, ?_⟩
  · have e := Host.reduce_andi_all _ _ _ _ _ h4 (ix2 p g)
    refine real_of_cmp (Eq.trans ?_ e)
    pointwise
  · exact real_of_cmp (Host.reduce_andi_all _ _ _ _ _ h6 (ix2 x q))
  · exact real_of_cmp (Host.reduce_andi_all _ _ _ _ _ h7 (ix1 q))
  · exact real_of_cmp (Host.reduce_andi_all _ _ _ _ _ h8 (ix2 x 0))
  · exact real_of_cmp (Host.reduce_andi_all _ _ _ _ _ h9 (ix1 0))

end Cert.Pre_weights_finite

end
-- ==== Proof.KAt.lean ====
/- The kernel's step read at an index: each value one run of the body computes, in terms of the blocks and the scratch
   contents at indices. -/
module

public import proofs.«01_k».proof.Proof.KStep
public import proofs.«01_k».proof.Proof.Reals
public import Idealize.ShloMosaic.Lib.Pointwise

@[expose] public section

set_option maxRecDepth 16384

noncomputable section

namespace Cert.KernelIdeal.At

open Cert.KernelIdeal Cert.KernelIdeal.Gen Cert.KernelIdeal.Step Idealize.ShloMosaic

variable (v : FVec Ideal S32x64 .f32)

/-- The key twice side by side. -/
def twice : FVec Ideal S32x128 .f32 := concatenate S32x128 1 [⟨S32x64, v⟩, ⟨S32x64, v⟩] concatenates_S32x64_S32x64_S32x128_d1

/-- Sixteen copies of a row of 128. -/
def tile (v82 : FVec Ideal S32x128 .f32) : FVec Ideal S32x2048 .f32 := concatenate S32x2048 1 [⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩, ⟨S32x128, v82⟩] concatenates_S32x128_S32x128_S32x128_S32x128_S32x128_S32x128_S32x128_S32x128_S32x128_S32x128_S32x128_S32x128_S32x128_S32x128_S32x128_S32x128_S32x2048_d1

theorem twice_apply (b : Fin 32) (k : Fin 128) : twice v (ix2 b k) = v (ix2 b ⟨k.val % 64, Nat.mod_lt _ (by norm_num)⟩) := by
  pointwise [twice]
  split
  · congr 2; apply Fin.ext; simp; omega
  · congr 2; apply Fin.ext; simp; omega

theorem tile_apply (u : FVec Ideal S32x128 .f32) (b : Fin 32) (k : Fin 2048) :
    tile u (ix2 b k) = u (ix2 b ⟨k.val % 128, Nat.mod_lt _ (by norm_num)⟩) := by
  refine concatenate_replicate_apply (t := S32x2048) (s₁ := S32x128) 1 16 u concatenates_S32x128_S32x128_S32x128_S32x128_S32x128_S32x128_S32x128_S32x128_S32x128_S32x128_S32x128_S32x128_S32x128_S32x128_S32x128_S32x128_S32x2048_d1 rfl _ _ rfl ?_
  intro a ha
  fin_cases a
  · rfl
  · exact absurd rfl ha

/-- The mask of the block-diagonal layout: column `k` belongs to row `k / 64`. -/
def mask : IVec S32x2048 1 :=
  have v84 : IVec S32x2048 32 := iota .tc S32x2048 32 [0] iota_S32x2048_d0_w32
  have v85 : IVec S32x2048 32 := iota .tc S32x2048 32 [1] iota_S32x2048_d1_w32
  have v86 : IVec S32x2048 32 := broadcast S32x2048 64#32
  have v87 : IVec S32x2048 32 := divsi v85 v86
  have v88 : IVec S32x2048 32 := broadcast S32x2048 0#32
  have v89 : IVec S32x2048 1 := cmpi .sgt v85 v88
  have v90 : IVec S32x2048 32 := extui 32 v89 natLt_1_32
  have v91 : IVec S32x2048 32 := broadcast S32x2048 0#32
  have v92 : IVec S32x2048 1 := cmpi .slt v85 v91
  have v93 : IVec S32x2048 32 := extui 32 v92 natLt_1_32
  have v94 : IVec S32x2048 32 := subi v90 v93
  let v95 : BitVec 1 := Scalar.cmpi .sgt 64#32 0#32
  let v96 : BitVec 32 := Scalar.extui v95
  let v97 : BitVec 1 := Scalar.cmpi .slt 64#32 0#32
  let v98 : BitVec 32 := Scalar.extui v97
  let v99 : BitVec 32 := Scalar.subi v96 v98
  have v100 : IVec S32x2048 32 := broadcast S32x2048 v99
  have v101 : IVec S32x2048 1 := cmpi .ne v94 v100
  have v102 : IVec S32x2048 32 := broadcast S32x2048 64#32
  have v103 : IVec S32x2048 32 := remsi v85 v102
  have v104 : IVec S32x2048 32 := broadcast S32x2048 0#32
  have v105 : IVec S32x2048 1 := cmpi .ne v103 v104
  have v106 : IVec S32x2048 1 := andi v101 v105
  have v107 : IVec S32x2048 32 := broadcast S32x2048 1#32
  have v108 : IVec S32x2048 32 := subi v87 v107
  have v109 : IVec S32x2048 32 := select v106 v108 v87
  have v110 : IVec S32x2048 1 := cmpi .eq v109 v84
  v110

/-- The quotient of a column's number by 64, as the program computes it on words. -/
def fdiv (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem fdiv_ofNat (k : Fin 2048) : fdiv (BitVec.ofNat 32 k) = BitVec.ofNat 32 (k / 64) := by
  revert k; decide +kernel

theorem mask_apply (b : Fin 32) (k : Fin 2048) : mask (ix2 b k) = IntOp.cmpi .eq (BitVec.ofNat 32 (k.val / 64)) (BitVec.ofNat 32 b.val) := by
  rw [← fdiv_ofNat]
  pointwise [mask, fdiv]

theorem mask_one (b : Fin 32) (k : Fin 2048) : mask (ix2 b k) = 1#1 ↔ k.val / 64 = b.val := by
  rw [mask_apply]
  have hb := b.isLt
  have hk := k.isLt
  have : ∀ x y : BitVec 32, IntOp.cmpi .eq x y = 1#1 ↔ x = y := by
    intro x y
    show BitVec.ofBool (x == y) = 1#1 ↔ _
    by_cases h : x = y
    · subst h; simp
    · rw [beq_eq_false_iff_ne.mpr h]; simp [h]
  rw [this]
  constructor
  · intro h
    have := congrArg BitVec.toNat h
    simp only [BitVec.toNat_ofNat] at this
    omega
  · intro h; rw [h]

theorem num_eq (memb : FVec Ideal S2048x2048 .bf16) : k0_pay23 v memb = matmul dot_S32x2048_S2048x2048_S32x2048_1_0_0_1_n_n none
    (truncf .bf16 (select mask (tile (twice v)) (broadcast S32x2048 (Scalar.ofBits .f32 0x00000000#32))) bitsLt_bf16_f32) memb
    (constant S32x2048 .f32 0x00000000#32) := rfl

/-- The product with the block-diagonal key: only the 64 rows of the batch row's own block count. -/
theorem num_apply (memb : FVec Ideal S2048x2048 .bf16) (b : Fin 32) (n : Fin 2048) :
    k0_pay23 v memb (ix2 b n) = ∑ k : Fin 64, v (ix2 b k) * memb (ix2 ⟨64 * b.val + k.val, by omega⟩ n) := by
  have hbt := b.isLt
  have hs : ∀ x : Fin 2048, Scalar.select (mask (ix2 b x)) (tile (twice v) (ix2 b x) * memb (ix2 x n)) 0
      = if x.val / 64 = b.val then v (ix2 b ⟨x.val % 64, Nat.mod_lt _ (by norm_num)⟩) * memb (ix2 x n) else 0 := by
    intro x
    rw [tile_apply, twice_apply]
    have hm : (⟨x.val % 128 % 64, Nat.mod_lt _ (by norm_num)⟩ : Fin 64) = ⟨x.val % 64, Nat.mod_lt _ (by norm_num)⟩ :=
      Fin.ext (by show x.val % 128 % 64 = x.val % 64; omega)
    by_cases h : x.val / 64 = b.val
    · rw [if_pos h]
      show (if mask (ix2 b x) = 1#1 then _ else _) = _
      rw [if_pos ((mask_one b x).mpr h)]
      simp only [hm]
    · rw [if_neg h]
      show (if mask (ix2 b x) = 1#1 then _ else _) = _
      rw [if_neg fun h' => h ((mask_one b x).mp h')]
  rw [num_eq]
  pointwise
  simp only [hs]
  rw [← Equiv.sum_comp (finProdFinEquiv (m := 32) (n := 64)), Fintype.sum_prod_type, Finset.sum_eq_single b]
  · refine Finset.sum_congr rfl fun k _ => ?_
    have hk := k.isLt
    have hv : (finProdFinEquiv (m := 32) (n := 64) (b, k)).val = k.val + 64 * b.val := rfl
    rw [if_pos (by rw [hv]; omega)]
    congr 3
    · exact Fin.ext (by show (k.val + 64 * b.val) % 64 = k.val; omega)
    · exact Fin.ext (by show k.val + 64 * b.val = 64 * b.val + k.val; omega)
  · intro a _ ha
    refine Finset.sum_eq_zero fun k _ => if_neg ?_
    have hk := k.isLt
    have hv : (finProdFinEquiv (m := 32) (n := 64) (a, k)).val = k.val + 64 * a.val := rfl
    rw [hv]
    intro h
    exact ha (Fin.ext (by omega))
  · intro h; exact absurd (Finset.mem_univ b) h

/-! The values of one step. -/

/-- Softplus of a number, as both programs spell it. -/
def sp (z : EReal) : EReal := max z 0 + Ideal.log1p (Ideal.exp (-(max z (-z))))

/-- The softmax of the scores. -/
def soft (f : Fin 2048 → EReal) (q : Fin 2048) : EReal :=
  Ideal.div (Ideal.exp (f q - Finset.fold max ⊥ f Finset.univ)) (∑ x, Ideal.exp (f x - Finset.fold max ⊥ f Finset.univ))

/-- The smallest norm the programs divide by. -/
abbrev eps : EReal := Ideal.ofBits .f32 0x322BCC77#32

section
variable (i : Ins Ideal) (s : St Ideal)

/-- The four gates before their functions. -/
def gates : FVec Ideal S32x2048 .f32 := k0_pay10 i.x s.h s.r i.wx i.wr i.wh i.bl

/-- The outputs of the projection. -/
def post : FVec Ideal S32x512 .f32 := k0_pay15 (hNew i s) i.wp i.bp

theorem gates_apply (b : Fin 32) (g : Fin 2048) : gates i s (ix2 b g)
    = (∑ x : Fin 256, i.x (ix3 0 b x) * i.wx (ix2 x g)) + (∑ x : Fin 64, s.r (ix2 b x) * i.wr (ix2 x g))
      + (∑ x : Fin 512, s.h (ix2 b x) * i.wh (ix2 x g)) + i.bl (ix2 0 g) := by
  pointwise [gates, k0_pay10]

theorem cNew_apply (b : Fin 32) (d : Fin 512) : cNew i s (ix2 b d)
    = Ideal.logistic (gates i s (ix2 b ⟨512 + d.val, by omega⟩)) * s.c (ix2 b d)
      + Ideal.logistic (gates i s (ix2 b ⟨d.val, by omega⟩)) * Ideal.tanh (gates i s (ix2 b ⟨1024 + d.val, by omega⟩)) := by
  pointwise [cNew, gates, k0_pay11]

theorem hNew_apply (b : Fin 32) (d : Fin 512) : hNew i s (ix2 b d)
    = Ideal.logistic (gates i s (ix2 b ⟨1536 + d.val, by omega⟩)) * Ideal.tanh (cNew i s (ix2 b d)) := by
  pointwise [hNew, cNew, gates, k0_pay12]

theorem post_apply (b : Fin 32) (q : Fin 512) : post i s (ix2 b q)
    = (∑ x : Fin 512, hNew i s (ix2 b x) * i.wp (ix2 x q)) + i.bp (ix2 0 q) := by
  pointwise [post, k0_pay15]

theorem yBlk_apply (b : Fin 32) (q : Fin 256) : yBlk i s (ix3 0 b q) = post i s (ix2 b ⟨q.val, by omega⟩) := by
  pointwise [yBlk, post, k0_pay16]

theorem key_apply (b : Fin 32) (q : Fin 64) : key i s (ix2 b q) = post i s (ix2 b ⟨256 + q.val, by omega⟩) := by
  pointwise [key, post, k0_pay17]

theorem beta_apply (b : Fin 32) : beta i s (ix2 b 0) = sp (post i s (ix2 b 384)) := by
  pointwise [beta, post, k0_pay18, sp]
  simp
  rfl

theorem slNew_apply (b : Fin 32) (q : Fin 64) : slNew i s (ix2 b q)
    = s.sl (ix2 b q) + (key i s (ix2 b q) - post i s (ix2 b ⟨320 + q.val, by omega⟩))
        * (key i s (ix2 b q) - post i s (ix2 b ⟨320 + q.val, by omega⟩)) := by
  pointwise [slNew, key, post, k0_pay20, k0_pay19]

theorem kk_apply (b : Fin 32) : kk i s (ix2 b 0) = ∑ x : Fin 64, key i s (ix2 b x) * key i s (ix2 b x) := by
  pointwise [kk, k0_pay21]

theorem kn_apply (b : Fin 32) : kn i s (ix2 b 0)
    = max (Ideal.sqrt (∑ x : Fin 64, key i s (ix2 b x) * key i s (ix2 b x))) eps := by
  pointwise [kn, k0_pay22, k0_pay21]

theorem num'_apply (b : Fin 32) (n : Fin 2048) : num i s (ix2 b n)
    = ∑ k : Fin 64, key i s (ix2 b k) * s.memb (ix2 ⟨64 * b.val + k.val, by omega⟩ n) := num_apply _ _ b n

theorem wgt_apply (b : Fin 32) (n : Fin 2048) : wgt i s (ix2 b n)
    = soft (fun n => beta i s (ix2 b 0) * Ideal.div (num i s (ix2 b n))
        (max (Ideal.sqrt (max (s.sq (ix2 b n)) 0)) eps * kn i s (ix2 b 0))) n := by
  have hb : ∀ z : EReal, max (Ideal.ofBits .f32 0xFF800000#32) z = z := fun z => by rw [Reals.lit_bot]; exact max_bot_left z
  pointwise [wgt, k0_pay24, soft]
  simp only [hb]
  simp only [Reals.lit_bot]

theorem memNew_apply (b : Fin 32) (k : Fin 64) (n : Fin 2048) : memNew i s (ix3 b k n)
    = s.mem (ix3 b k n) + wgt i s (ix2 b n) * key i s (ix2 b k) := by
  pointwise [memNew, wgt, k0_pay26, k0_pay25]

theorem membNew_apply (b : Fin 32) (k : Fin 64) (n : Fin 2048) :
    membNew i s (ix2 ⟨64 * b.val + k.val, by omega⟩ n) = memNew i s (ix3 b k n) := by
  have hb := b.isLt
  have hk := k.isLt
  pointwise [membNew, memNew, k0_pay27, k0_pay26]

theorem rNew_apply (b : Fin 32) (k : Fin 64) : rNew i s (ix2 b k)
    = ∑ n : Fin 2048, memNew i s (ix3 b k n) * wgt i s (ix2 b n) := by
  pointwise [rNew, memNew, wgt, k0_pay28, k0_pay26]

theorem sqNew_apply (b : Fin 32) (n : Fin 2048) : sqNew i s (ix2 b n)
    = s.sq (ix2 b n) + 2 * wgt i s (ix2 b n) * num i s (ix2 b n) + wgt i s (ix2 b n) * wgt i s (ix2 b n) * kk i s (ix2 b 0) := by
  pointwise [sqNew, k0_pay1]
  rw [Reals.lit_two]

end

theorem pay13_apply (h : FVec Ideal S32x512 .f32) (b : Fin 32) (d : Fin 512) : k0_pay13 h (ix2 b d) = h (ix2 b d) := by
  pointwise [k0_pay13]

theorem pay14_apply (h : FVec Ideal S32x512 .f32) (b : Fin 32) (d : Fin 512) : k0_pay14 h (ix2 b d) = h (ix2 b d) := by
  pointwise [k0_pay14]

theorem lossBlock_apply (sl : Vec Ideal S32x64 .f32) (p : Fin 1) (q : Fin 8) (r : Fin 128) :
    k0_pay2 sl (ix3 p q r) = ∑ x : Fin 32, ∑ y : Fin 64, sl (ix2 x y) := by
  pointwise [k0_pay2]

/-! The scratch buffers at a core's first step hold zeros. -/

theorem zero_mem (b : Fin 32) (k : Fin 64) (n : Fin 2048) : (zeroSt (F := Ideal)).mem (ix3 b k n) = (0 : EReal) := by
  pointwise [zeroSt, k0_pay3]
theorem zero_memb (p n : Fin 2048) : (zeroSt (F := Ideal)).memb (ix2 p n) = (0 : EReal) := by
  pointwise [zeroSt, k0_pay4]
theorem zero_h (b : Fin 32) (d : Fin 512) : (zeroSt (F := Ideal)).h (ix2 b d) = (0 : EReal) := by
  pointwise [zeroSt, k0_pay5]
theorem zero_c (b : Fin 32) (d : Fin 512) : (zeroSt (F := Ideal)).c (ix2 b d) = (0 : EReal) := by
  pointwise [zeroSt, k0_pay6]
theorem zero_r (b : Fin 32) (k : Fin 64) : (zeroSt (F := Ideal)).r (ix2 b k) = (0 : EReal) := by
  pointwise [zeroSt, k0_pay7]
theorem zero_sq (b : Fin 32) (n : Fin 2048) : (zeroSt (F := Ideal)).sq (ix2 b n) = (0 : EReal) := by
  pointwise [zeroSt, k0_pay8]
theorem zero_sl (b : Fin 32) (k : Fin 64) : (zeroSt (F := Ideal)).sl (ix2 b k) = (0 : EReal) := by
  pointwise [zeroSt, k0_pay9]

end Cert.KernelIdeal.At

end
-- ==== Proof.RAt.lean ====
/- The reference's trip read at an index: each value one trip computes, in terms of the carried state at indices. -/
module

public import proofs.«01_k».proof.Proof.RefRun
public import proofs.«01_k».proof.Proof.KAt
public import Idealize.ShloMosaic.Lib.Pointwise
public import Idealize.ShloMosaic.Lib.DynamicIndex
public import Idealize.ShloMosaic.Lib.Pipeline.Value

@[expose] public section

set_option maxRecDepth 16384

noncomputable section

namespace Cert.ReferenceIdeal.At

open Cert Cert.ReferenceIdeal Cert.ReferenceIdeal.Gen Cert.ReferenceIdeal.Step Idealize.ShloMosaic

open Cert.KernelIdeal.At (sp soft eps)

variable (j : ℕ) (s : State Ideal)

/-- A trip's number read back from its word. -/
theorem toInt_word {j : ℕ} (hj : j < 512) : (BitVec.ofNat 32 j).toInt = (j : ℤ) := by
  rw [BitVec.toInt_eq_toNat_of_lt (by rw [BitVec.toNat_ofNat]; omega), BitVec.toNat_ofNat]
  omega

theorem b2_eq (hj : j < 512) (B : Fin 64) (x : Fin 256) : b2 j s (ix3 0 B x) = s.main_v5_0 (ix3 ⟨j, hj⟩ B x) := by
  unfold b2
  have hoff : S512x64x256.Slices ![j, 0, 0] S1x64x256 :=
    ⟨rfl, fun a => by fin_cases a <;> simp <;> omega⟩
  rw [Host.dynamicSlice_eq_extractStridedSlice S1x64x256 _ _ ![j, 0, 0] _ hoff
    (fun a => by
      fin_cases a
      · exact toInt_word hj
      · rfl
      · rfl)]
  pointwise

theorem x_apply (hj : j < 512) (B : Fin 64) (d : Fin 512) : b5 j s (ix2 B d)
    = if h : d.val < 256 then s.main_v5_0 (ix3 ⟨j, hj⟩ B ⟨d.val, h⟩)
      else s.main_v5_16 (ix3 B ⟨(d.val - 256) / 4, by omega⟩ ⟨(d.val - 256) % 4, Nat.mod_lt _ (by norm_num)⟩) := by
  pointwise [b5, b4, b3]
  split
  · exact b2_eq j s hj _ _
  · rfl

theorem gates_apply (B : Fin 64) (g : Fin 2048) : b11 j s (ix2 B g)
    = (∑ x : Fin 512, b5 j s (ix2 B x) * s.main_v5_1 (ix2 x g))
      + (∑ x : Fin 512, s.main_v5_13 (ix2 B x) * s.main_v5_2 (ix2 x g)) + s.main_v5_3 (ix1 g) := by
  pointwise [b6, b7, b8, b9, b10, b11]

theorem c_apply (B : Fin 64) (d : Fin 512) : b35 j s (ix2 B d)
    = Ideal.logistic (b11 j s (ix2 B ⟨512 + d.val, by omega⟩)) * s.main_v5_14 (ix2 B d)
      + Ideal.logistic (b11 j s (ix2 B ⟨d.val, by omega⟩)) * Ideal.tanh (b11 j s (ix2 B ⟨1024 + d.val, by omega⟩)) := by
  pointwise [b12, b13, b14, b15, b16, b17, b18, b19, b20, b21, b22, b23, b24, b25, b26, b27, b28, b29, b30, b31, b32, b33, b34, b35]
  rfl

theorem h_apply (B : Fin 64) (d : Fin 512) : b45 j s (ix2 B d)
    = Ideal.logistic (b11 j s (ix2 B ⟨1536 + d.val, by omega⟩)) * Ideal.tanh (b35 j s (ix2 B d)) := by
  pointwise [b15, b36, b37, b38, b39, b40, b41, b42, b43, b44, b45]
  rfl

theorem pre_apply (B : Fin 64) (y : Fin 256) : b49 j s (ix2 B y)
    = (∑ x : Fin 512, b45 j s (ix2 B x) * s.main_v5_4 (ix2 x y)) + s.main_v5_5 (ix1 y) := by
  pointwise [b46, b47, b48, b49]

theorem key_apply (B : Fin 64) (k : Fin 64) : b53 j s (ix2 B k)
    = (∑ x : Fin 512, b45 j s (ix2 B x) * s.main_v5_6 (ix2 x k)) + s.main_v5_7 (ix1 k) := by
  pointwise [b50, b51, b52, b53]

theorem beta_apply (B : Fin 64) : b71 j s (ix2 B 0)
    = sp ((∑ x : Fin 512, b45 j s (ix2 B x) * s.main_v5_8 (ix2 x 0)) + s.main_v5_9 (ix1 0)) := by
  pointwise [b54, b55, b56, b57, b58, b59, b60, b61, b62, b63, b64, b65, b66, b67, b68, b69, b70, b71, sp]
  simp
  rfl

theorem gen_apply (B : Fin 64) (k : Fin 64) : b75 j s (ix2 B k)
    = (∑ x : Fin 512, b45 j s (ix2 B x) * s.main_v5_10 (ix2 x k)) + s.main_v5_11 (ix1 k) := by
  pointwise [b72, b73, b74, b75]

theorem num_apply (B : Fin 64) (n : Fin 2048) : b76 j s (ix2 B n)
    = ∑ x : Fin 64, s.main_v5_15 (ix3 B n x) * b53 j s (ix2 B x) := by
  pointwise [b76]

theorem norms_apply (B : Fin 64) (n : Fin 2048) : b93 j s (ix2 B n)
    = max (Ideal.sqrt (∑ x : Fin 64, s.main_v5_15 (ix3 B n x) * s.main_v5_15 (ix3 B n x))) eps
      * max (Ideal.sqrt (∑ x : Fin 64, b53 j s (ix2 B x) * b53 j s (ix2 B x))) eps := by
  pointwise [b77, b78, b79, b80, b81, b82, b83, b84, b85, b86, b87, b88, b89, b90, b91, b92, b93]

theorem score_apply (B : Fin 64) (n : Fin 2048) : b96 j s (ix2 B n)
    = b71 j s (ix2 B 0) * Ideal.div (b76 j s (ix2 B n)) (b93 j s (ix2 B n)) := by
  pointwise [b94, b95, b96]

theorem w_apply (B : Fin 64) (n : Fin 2048) : b110 j s (ix2 B n) = soft (fun n => b96 j s (ix2 B n)) n := by
  pointwise [b97, b98, b99, b100, b101, b102, b103, b104, b105, b106, b107, b108, b109, b110, soft]
  simp only [Reals.lit_bot, max_bot_left]

theorem loss_apply : b117 j s ix0 = s.main_v5_17 ix0 + Ideal.div (∑ x : Fin 64, ∑ y : Fin 64,
      (b53 j s (ix2 x y) - b75 j s (ix2 x y)) * (b53 j s (ix2 x y) - b75 j s (ix2 x y))) (Ideal.ofBits .f32 0x45800000#32) := by
  pointwise [b111, b112, b113, b114, b115, b116, b117]

theorem mem_apply (B : Fin 64) (n : Fin 2048) (k : Fin 64) : b123 j s (ix3 B n k)
    = s.main_v5_15 (ix3 B n k) + b110 j s (ix2 B n) * b53 j s (ix2 B k) := by
  pointwise [b118, b119, b120, b121, b122, b123]

theorem r_apply (B : Fin 64) (k : Fin 64) (q : Fin 4) : b126 j s (ix3 B k q)
    = ∑ n : Fin 2048, b110 j s (ix2 B n) * b123 j s (ix3 B n k) := by
  pointwise [b124, b125, b126]

theorem y_apply (hj : j < 512) (t : Fin 512) (B : Fin 64) (y : Fin 256) : b130 j s (ix3 t B y)
    = if t.val = j then b49 j s (ix2 B y) else s.main_v5_18 (ix3 t B y) := by
  unfold b130
  have hoff : S512x64x256.Slices ![j, 0, 0] S1x64x256 :=
    ⟨rfl, fun a => by fin_cases a <;> simp <;> omega⟩
  rw [Host.dynamicUpdateSlice_eq_updateSlice _ _ _ _ ![j, 0, 0]
    (fun a => by
      fin_cases a
      · show (min (max (BitVec.ofNat 32 j).toInt 0) _).toNat = j
        rw [toInt_word hj]
        show (min (max (j : ℤ) 0) ((512 - 1 : ℕ) : ℤ)).toNat = j
        omega
      · rfl
      · rfl) hoff]
  pointwise [b127]
  by_cases h : t.val = j
  · rw [if_pos h, dif_pos ⟨by omega, by omega⟩]
  · rw [if_neg h, dif_neg fun h' => h (by omega)]

/-! The state before the first trip. -/

theorem K_v0_apply (B : Fin 64) (n : Fin 2048) (k : Fin 64) : (K_main_v0 (F := Ideal)) (ix3 B n k) = (0 : EReal) := by
  pointwise [K_main_v0, K_main_cst]
theorem K_v1_apply (B : Fin 64) (d : Fin 512) : (K_main_v1 (F := Ideal)) (ix2 B d) = (0 : EReal) := by
  pointwise [K_main_v1, K_main_cst_0]
theorem K_v2_apply (B : Fin 64) (d : Fin 512) : (K_main_v2 (F := Ideal)) (ix2 B d) = (0 : EReal) := by
  pointwise [K_main_v2, K_main_cst_1]
theorem K_v3_apply (B : Fin 64) (k : Fin 64) (q : Fin 4) : (K_main_v3 (F := Ideal)) (ix3 B k q) = (0 : EReal) := by
  pointwise [K_main_v3, K_main_cst_2]
theorem K_cst_3_apply : (K_main_cst_3 (F := Ideal)) ix0 = (0 : EReal) := by
  pointwise [K_main_cst_3]

end Cert.ReferenceIdeal.At

end
-- ==== Proof.Inv.lean ====
/- One step of the kernel against one trip of the reference. A core's scratch buffers stand for the reference's carried
   values on the 32 batch rows of that core (`Inv`); a step on blocks that stand for the reference's arguments (`InsRel`)
   keeps that, and the values both compute on the way agree. The weights of the memory part are real numbers (`RealW`),
   which makes the memory, the read vector and the scores real. -/
module

public import proofs.«01_k».proof.Proof.RAt

@[expose] public section

set_option maxRecDepth 16384

noncomputable section

namespace Cert.Match

open Idealize.ShloMosaic Cert.Reals
open Cert.KernelIdeal.Step (Ins St)
open Cert.ReferenceIdeal.Step (State)
open Cert.KernelIdeal.At (sp soft eps gates post)

/-- Batch row `b` of core `e`. -/
def row (e : Fin 2) (b : Fin 32) : Fin 64 := ⟨32 * e.val + b.val, by omega⟩

/-- The kernel's blocks at a step are the reference's arguments. -/
structure InsRel (e : Fin 2) (j : ℕ) (hj : j < 512) (i : Ins Ideal) (σ : State Ideal) : Prop where
  x : ∀ (b : Fin 32) (d : Fin 256), i.x (ix3 0 b d) = σ.main_v5_0 (ix3 ⟨j, hj⟩ (row e b) d)
  wx : ∀ (d : Fin 256) (g : Fin 2048), i.wx (ix2 d g) = σ.main_v5_1 (ix2 ⟨d.val, by omega⟩ g)
  wr : ∀ (k : Fin 64) (g : Fin 2048), i.wr (ix2 k g) = ∑ q : Fin 4, σ.main_v5_1 (ix2 ⟨256 + 4 * k.val + q.val, by omega⟩ g)
  wh : ∀ (d : Fin 512) (g : Fin 2048), i.wh (ix2 d g) = σ.main_v5_2 (ix2 d g)
  bl : ∀ g : Fin 2048, i.bl (ix2 0 g) = σ.main_v5_3 (ix1 g)
  wpOut : ∀ (x : Fin 512) (q : Fin 256), i.wp (ix2 x ⟨q.val, by omega⟩) = σ.main_v5_4 (ix2 x q)
  wpKey : ∀ (x : Fin 512) (q : Fin 64), i.wp (ix2 x ⟨256 + q.val, by omega⟩) = σ.main_v5_6 (ix2 x q)
  wpGen : ∀ (x : Fin 512) (q : Fin 64), i.wp (ix2 x ⟨320 + q.val, by omega⟩) = σ.main_v5_10 (ix2 x q)
  wpBeta : ∀ x : Fin 512, i.wp (ix2 x 384) = σ.main_v5_8 (ix2 x 0)
  bpOut : ∀ q : Fin 256, i.bp (ix2 0 ⟨q.val, by omega⟩) = σ.main_v5_5 (ix1 q)
  bpKey : ∀ q : Fin 64, i.bp (ix2 0 ⟨256 + q.val, by omega⟩) = σ.main_v5_7 (ix1 q)
  bpGen : ∀ q : Fin 64, i.bp (ix2 0 ⟨320 + q.val, by omega⟩) = σ.main_v5_11 (ix1 q)
  bpBeta : i.bp (ix2 0 384) = σ.main_v5_9 (ix1 0)

/-- The weights that reach the memory are real numbers. -/
structure RealW (σ : State Ideal) : Prop where
  rd : ∀ (p : Fin 512) (g : Fin 2048), 256 ≤ p.val → IsR (σ.main_v5_1 (ix2 p g))
  key : ∀ (x : Fin 512) (q : Fin 64), IsR (σ.main_v5_6 (ix2 x q))
  bkey : ∀ q : Fin 64, IsR (σ.main_v5_7 (ix1 q))
  beta : ∀ x : Fin 512, IsR (σ.main_v5_8 (ix2 x 0))
  bbeta : IsR (σ.main_v5_9 (ix1 0))

/-- A core's scratch buffers are the reference's carried values on that core's rows. -/
structure Inv (e : Fin 2) (s : St Ideal) (σ : State Ideal) : Prop where
  h : ∀ (b : Fin 32) (d : Fin 512), s.h (ix2 b d) = σ.main_v5_13 (ix2 (row e b) d)
  c : ∀ (b : Fin 32) (d : Fin 512), s.c (ix2 b d) = σ.main_v5_14 (ix2 (row e b) d)
  mem : ∀ (b : Fin 32) (k : Fin 64) (n : Fin 2048), s.mem (ix3 b k n) = σ.main_v5_15 (ix3 (row e b) n k)
  memb : ∀ (b : Fin 32) (k : Fin 64) (n : Fin 2048),
    s.memb (ix2 ⟨64 * b.val + k.val, by omega⟩ n) = σ.main_v5_15 (ix3 (row e b) n k)
  r : ∀ (b : Fin 32) (k : Fin 64) (q : Fin 4), σ.main_v5_16 (ix3 (row e b) k q) = s.r (ix2 b k)
  sq : ∀ (b : Fin 32) (n : Fin 2048), s.sq (ix2 b n)
    = ∑ k : Fin 64, σ.main_v5_15 (ix3 (row e b) n k) * σ.main_v5_15 (ix3 (row e b) n k)
  memReal : ∀ (b : Fin 32) (n : Fin 2048) (k : Fin 64), IsR (σ.main_v5_15 (ix3 (row e b) n k))
  rReal : ∀ (b : Fin 32) (k : Fin 64), IsR (s.r (ix2 b k))

/-- A norm kept above the smallest one is a positive real. -/
theorem norm_real {x : EReal} (hx : IsR x) (h0 : 0 ≤ x) : IsR (max (Ideal.sqrt x) eps) ∧ 0 < max (Ideal.sqrt x) eps := by
  obtain ⟨d, hd, he⟩ := lit_eps
  have he' : eps = (d : EReal) := he
  rw [he']
  exact ⟨(isR_sqrt hx h0).max (isR_coe d), lt_of_lt_of_le (by exact_mod_cast hd) (le_max_right _ _)⟩

theorem mul_pos_real {x y : EReal} (hx : IsR x) (hy : IsR y) (h : 0 < x) (h' : 0 < y) : 0 < x * y := by
  obtain ⟨a, rfl⟩ := hx; obtain ⟨b, rfl⟩ := hy
  rw [← EReal.coe_mul]
  exact_mod_cast mul_pos (by exact_mod_cast h) (by exact_mod_cast h')

theorem isR_sp {z : EReal} (hz : IsR z) : IsR (sp z) :=
  (hz.max isR_zero).add (isR_log1p_exp (hz.max hz.neg).neg)

section
variable {e : Fin 2} {j : ℕ} {hj : j < 512} {i : Ins Ideal} {s : St Ideal} {σ : State Ideal}
variable (hI : InsRel e j hj i σ) (hW : RealW σ) (hS : Inv e s σ)
include hI hW hS

open Cert.KernelIdeal.Step Cert.ReferenceIdeal.Step

/-- The read vector's part of the gates: four equal entries against four rows of weights, or one against their sum. -/
theorem read_part (b : Fin 32) (g : Fin 2048) :
    ∑ x : Fin 256, σ.main_v5_16 (ix3 (row e b) ⟨x.val / 4, by omega⟩ ⟨x.val % 4, Nat.mod_lt _ (by norm_num)⟩)
        * σ.main_v5_1 (ix2 ⟨256 + x.val, by omega⟩ g)
      = ∑ k : Fin 64, s.r (ix2 b k) * i.wr (ix2 k g) := by
  rw [← Equiv.sum_comp (finProdFinEquiv (m := 64) (n := 4)), Fintype.sum_prod_type]
  refine Finset.sum_congr rfl fun k _ => ?_
  rw [hI.wr, mul_sum_real _ (hS.rReal b k) fun q => hW.rd _ g (by show 256 ≤ 256 + 4 * k.val + q.val; omega)]
  refine Finset.sum_congr rfl fun q _ => ?_
  have hk := k.isLt
  have hq := q.isLt
  have hv : (finProdFinEquiv (m := 64) (n := 4) (k, q)).val = q.val + 4 * k.val := rfl
  rw [← hS.r b k q]
  congr 2
  · congr 1
    · exact Fin.ext (by show (finProdFinEquiv (m := 64) (n := 4) (k, q)).val / 4 = k.val; omega)
    · exact Fin.ext (by show (finProdFinEquiv (m := 64) (n := 4) (k, q)).val % 4 = q.val; omega)
  · congr 1
    exact Fin.ext (by show 256 + (finProdFinEquiv (m := 64) (n := 4) (k, q)).val = 256 + 4 * k.val + q.val; omega)

theorem gates_eq (b : Fin 32) (g : Fin 2048) : gates i s (ix2 b g) = b11 j σ (ix2 (row e b) g) := by
  rw [KernelIdeal.At.gates_apply, ReferenceIdeal.At.gates_apply, hI.bl]
  have h1 : ∑ x : Fin 512, s.h (ix2 b x) * i.wh (ix2 x g) = ∑ x : Fin 512, σ.main_v5_13 (ix2 (row e b) x) * σ.main_v5_2 (ix2 x g) :=
    Finset.sum_congr rfl fun x _ => by rw [hS.h, hI.wh]
  have h2 : ∑ x : Fin 512, b5 j σ (ix2 (row e b) x) * σ.main_v5_1 (ix2 x g)
      = (∑ x : Fin 256, i.x (ix3 0 b x) * i.wx (ix2 x g)) + ∑ x : Fin 64, s.r (ix2 b x) * i.wr (ix2 x g) := by
    rw [← read_part hI hW hS, show (∑ x : Fin 512, b5 j σ (ix2 (row e b) x) * σ.main_v5_1 (ix2 x g))
      = ∑ x : Fin (256 + 256), b5 j σ (ix2 (row e b) x) * σ.main_v5_1 (ix2 x g) from rfl, Fin.sum_univ_add]
    congr 1
    · refine Finset.sum_congr rfl fun x _ => ?_
      rw [ReferenceIdeal.At.x_apply j σ hj, dif_pos (show (Fin.castAdd 256 x).val < 256 from x.isLt), hI.x, hI.wx]
      rfl
    · refine Finset.sum_congr rfl fun x _ => ?_
      have hv : (Fin.natAdd 256 x).val = 256 + x.val := rfl
      rw [ReferenceIdeal.At.x_apply j σ hj, dif_neg (show ¬ (Fin.natAdd 256 x).val < 256 by omega)]
      congr 2
      congr 1
      · exact Fin.ext (by show ((Fin.natAdd 256 x).val - 256) / 4 = x.val / 4; omega)
      · exact Fin.ext (by show ((Fin.natAdd 256 x).val - 256) % 4 = x.val % 4; omega)
  rw [h1, h2]

theorem c_eq (b : Fin 32) (d : Fin 512) : cNew i s (ix2 b d) = b35 j σ (ix2 (row e b) d) := by
  rw [KernelIdeal.At.cNew_apply, ReferenceIdeal.At.c_apply, hS.c]
  simp only [gates_eq hI hW hS]

theorem h_eq (b : Fin 32) (d : Fin 512) : hNew i s (ix2 b d) = b45 j σ (ix2 (row e b) d) := by
  rw [KernelIdeal.At.hNew_apply, ReferenceIdeal.At.h_apply, c_eq hI hW hS]
  simp only [gates_eq hI hW hS]

omit hI hW hS in
theorem h_real (B : Fin 64) (d : Fin 512) : IsR (b45 j σ (ix2 B d)) := by
  rw [ReferenceIdeal.At.h_apply]; exact (isR_logistic _).mul (isR_tanh _)

theorem y_eq (b : Fin 32) (q : Fin 256) : yBlk i s (ix3 0 b q) = b49 j σ (ix2 (row e b) q) := by
  rw [KernelIdeal.At.yBlk_apply, KernelIdeal.At.post_apply, ReferenceIdeal.At.pre_apply, hI.bpOut]
  simp only [h_eq hI hW hS, hI.wpOut]

theorem key_eq (b : Fin 32) (q : Fin 64) : key i s (ix2 b q) = b53 j σ (ix2 (row e b) q) := by
  rw [KernelIdeal.At.key_apply, KernelIdeal.At.post_apply, ReferenceIdeal.At.key_apply, hI.bpKey]
  simp only [h_eq hI hW hS, hI.wpKey]

theorem gen_eq (b : Fin 32) (q : Fin 64) : post i s (ix2 b ⟨320 + q.val, by omega⟩) = b75 j σ (ix2 (row e b) q) := by
  rw [KernelIdeal.At.post_apply, ReferenceIdeal.At.gen_apply, hI.bpGen]
  simp only [h_eq hI hW hS, hI.wpGen]

theorem beta_eq (b : Fin 32) : beta i s (ix2 b 0) = b71 j σ (ix2 (row e b) 0) := by
  rw [KernelIdeal.At.beta_apply, KernelIdeal.At.post_apply, ReferenceIdeal.At.beta_apply, hI.bpBeta]
  simp only [h_eq hI hW hS, hI.wpBeta]

omit hI hS in
theorem key_real (B : Fin 64) (q : Fin 64) : IsR (b53 j σ (ix2 B q)) := by
  rw [ReferenceIdeal.At.key_apply]
  exact (isR_sum_univ fun x => (h_real B x).mul (hW.key x q)).add (hW.bkey q)

omit hI hS in
theorem beta_real (B : Fin 64) : IsR (b71 j σ (ix2 B 0)) := by
  rw [ReferenceIdeal.At.beta_apply]
  exact isR_sp ((isR_sum_univ fun x => (h_real B x).mul (hW.beta x)).add hW.bbeta)

theorem num_eq (b : Fin 32) (n : Fin 2048) : num i s (ix2 b n) = b76 j σ (ix2 (row e b) n) := by
  rw [KernelIdeal.At.num'_apply, ReferenceIdeal.At.num_apply]
  exact Finset.sum_congr rfl fun k _ => by rw [key_eq hI hW hS, hS.memb, mul_comm]

theorem wgt_eq (b : Fin 32) (n : Fin 2048) : wgt i s (ix2 b n) = b110 j σ (ix2 (row e b) n) := by
  rw [KernelIdeal.At.wgt_apply, ReferenceIdeal.At.w_apply]
  refine congrArg (fun f => soft f n) (funext fun n => ?_)
  rw [ReferenceIdeal.At.score_apply, ReferenceIdeal.At.norms_apply, beta_eq hI hW hS, num_eq hI hW hS, KernelIdeal.At.kn_apply,
    hS.sq, max_eq_left (Finset.sum_nonneg fun k _ => mul_self_nonneg' _)]
  simp only [key_eq hI hW hS]

omit hI in
theorem score_real (b : Fin 32) (n : Fin 2048) : IsR (b96 j σ (ix2 (row e b) n)) := by
  rw [ReferenceIdeal.At.score_apply, ReferenceIdeal.At.norms_apply, ReferenceIdeal.At.num_apply]
  have h1 := norm_real (isR_sum_univ fun k : Fin 64 => (hS.memReal b n k).mul (hS.memReal b n k))
    (Finset.sum_nonneg fun k _ => mul_self_nonneg' _)
  have h2 := norm_real (isR_sum_univ fun k : Fin 64 => (key_real (j := j) hW (row e b) k).mul (key_real (j := j) hW (row e b) k))
    (Finset.sum_nonneg fun k _ => mul_self_nonneg' _)
  exact (beta_real hW _).mul (isR_div (isR_sum_univ fun k => (hS.memReal b n k).mul (key_real hW _ k))
    (h1.1.mul h2.1) (mul_pos_real h1.1 h2.1 h1.2 h2.2).ne')

omit hI in
theorem w_real (b : Fin 32) (n : Fin 2048) : IsR (b110 j σ (ix2 (row e b) n)) := by
  rw [ReferenceIdeal.At.w_apply]
  exact isR_softmax (n := 2047) _ _ (fun n => score_real hW hS b n) (isR_fold_max (n := 2047) _ fun n => score_real hW hS b n) n

theorem mem_eq (b : Fin 32) (k : Fin 64) (n : Fin 2048) : memNew i s (ix3 b k n) = b123 j σ (ix3 (row e b) n k) := by
  rw [KernelIdeal.At.memNew_apply, ReferenceIdeal.At.mem_apply, hS.mem, wgt_eq hI hW hS, key_eq hI hW hS]

omit hI in
theorem mem_real (b : Fin 32) (n : Fin 2048) (k : Fin 64) : IsR (b123 j σ (ix3 (row e b) n k)) := by
  rw [ReferenceIdeal.At.mem_apply]
  exact (hS.memReal b n k).add ((w_real hW hS b n).mul (key_real hW _ k))

theorem r_eq (b : Fin 32) (k : Fin 64) (q : Fin 4) : b126 j σ (ix3 (row e b) k q) = rNew i s (ix2 b k) := by
  rw [KernelIdeal.At.rNew_apply, ReferenceIdeal.At.r_apply]
  exact Finset.sum_congr rfl fun n _ => by rw [mem_eq hI hW hS, wgt_eq hI hW hS, mul_comm]

theorem r_real (b : Fin 32) (k : Fin 64) : IsR (rNew i s (ix2 b k)) := by
  rw [← r_eq hI hW hS b k 0, ReferenceIdeal.At.r_apply]
  exact isR_sum_univ fun n => (w_real hW hS b n).mul (mem_real hW hS b n k)

theorem sq_eq (b : Fin 32) (n : Fin 2048) : sqNew i s (ix2 b n)
    = ∑ k : Fin 64, b123 j σ (ix3 (row e b) n k) * b123 j σ (ix3 (row e b) n k) := by
  rw [KernelIdeal.At.sqNew_apply, hS.sq, wgt_eq hI hW hS, num_eq hI hW hS, KernelIdeal.At.kk_apply, ReferenceIdeal.At.num_apply]
  simp only [key_eq hI hW hS, ReferenceIdeal.At.mem_apply]
  exact sumsq_step _ _ _ (hS.memReal b n) (key_real hW (row e b)) (w_real hW hS b n)

/-- A step keeps the match. -/
theorem inv_next : Inv e (next i s) (step j σ) where
  h b d := (KernelIdeal.At.pay13_apply _ b d).trans (h_eq hI hW hS b d)
  c b d := (KernelIdeal.At.pay14_apply _ b d).trans (c_eq hI hW hS b d)
  mem b k n := mem_eq hI hW hS b k n
  memb b k n := (KernelIdeal.At.membNew_apply i s b k n).trans (mem_eq hI hW hS b k n)
  r b k q := r_eq hI hW hS b k q
  sq b n := sq_eq hI hW hS b n
  memReal b n k := mem_real hW hS b n k
  rReal b k := r_real hI hW hS b k

/-- What a step adds to the loss. -/
theorem sl_eq (b : Fin 32) (q : Fin 64) : (next i s).sl (ix2 b q) = s.sl (ix2 b q)
    + (b53 j σ (ix2 (row e b) q) - b75 j σ (ix2 (row e b) q)) * (b53 j σ (ix2 (row e b) q) - b75 j σ (ix2 (row e b) q)) := by
  rw [← key_eq hI hW hS, ← gen_eq hI hW hS]
  exact KernelIdeal.At.slNew_apply i s b q

end

end Cert.Match

end
-- ==== Proof.InsAt.lean ====
/- The blocks a step reads, at an index: each is an element of one of the program's arguments, and a block of the
   read-vector weights the sum of four. -/
module

public import proofs.«01_k».proof.Proof.KRun
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.At

open Idealize.ShloMosaic.TcCoe
open Cert.KernelIdeal Cert.KernelIdeal.Gen Cert.KernelIdeal.Step Idealize.ShloMosaic

open Cert.KernelIdeal.Final
variable (m : (ℓ : Loc nD τ sig) → Buf (Elt Ideal) ℓ) (c : Dev nD)

theorem index0 : ∀ t : Fin cfg0.N, (cfg0.win 0).index t = ![t.val % 512, t.val / 512, 0] := by decide +kernel
theorem index1 : ∀ t : Fin cfg0.N, (cfg0.win 1).index t = ![0, 0] := by decide +kernel
theorem index2 : ∀ t : Fin cfg0.N, (cfg0.win 2).index t = ![0, 0] := by decide +kernel
theorem index3 : ∀ t : Fin cfg0.N, (cfg0.win 3).index t = ![0, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0] := by decide +kernel

theorem blk0 (t : Fin cfg0.N) (b : Fin 32) (d : Fin 256) : (insAt m c t).x (ix3 0 b d)
    = m ((c : Thread nD τ).loc main_arg0) (ix3 ⟨t.val % 512, by omega⟩ ⟨32 * (t.val / 512) + b.val, by have h := t.isLt; have e : cfg0.N = 1024 := N_0; omega⟩ d) := by
  show iblk m c 0 t (ix3 0 b d) = _
  blk_ext [iblk, V, index0 t]

theorem blk1 (t : Fin cfg0.N) (p : Fin 256) (q : Fin 2048) : (insAt m c t).wx (ix2 p q) = V m c main_v0 (ix2 p q) := by
  show iblk m c 1 t (ix2 p q) = _
  blk_ext [iblk, index1 t]

theorem blk2 (t : Fin cfg0.N) (p : Fin 64) (q : Fin 2048) : (insAt m c t).wr (ix2 p q) = V m c main_v3 (ix2 p q) := by
  show iblk m c 2 t (ix2 p q) = _
  blk_ext [iblk, index2 t]

theorem blk3 (t : Fin cfg0.N) (p : Fin 512) (q : Fin 2048) : (insAt m c t).wh (ix2 p q) = V m c main_arg2 (ix2 p q) := by
  show iblk m c 3 t (ix2 p q) = _
  blk_ext [iblk, index3 t]

theorem blk4 (t : Fin cfg0.N) (p : Fin 1) (q : Fin 2048) : (insAt m c t).bl (ix2 p q) = V m c main_v9 (ix2 p q) := by
  show iblk m c 4 t (ix2 p q) = _
  blk_ext [iblk, index4 t]

theorem blk5 (t : Fin cfg0.N) (p : Fin 512) (q : Fin 512) : (insAt m c t).wp (ix2 p q) = V m c main_v5 (ix2 p q) := by
  show iblk m c 5 t (ix2 p q) = _
  blk_ext [iblk, index5 t]

theorem blk6 (t : Fin cfg0.N) (p : Fin 1) (q : Fin 512) : (insAt m c t).bp (ix2 p q) = V m c main_v8 (ix2 p q) := by
  show iblk m c 6 t (ix2 p q) = _
  blk_ext [iblk, index6 t]

theorem v0_apply (d : Fin 256) (g : Fin 2048) : V m c main_v0 (ix2 d g)
    = m ((c : Thread nD τ).loc main_arg1) (ix2 ⟨d.val, by omega⟩ g) := by
  unfold V
  after_reads_at

theorem v3_apply (a : FVec Ideal S512x2048 .f32) (ha : m ((c : Thread nD τ).loc main_arg1) = a) (k : Fin 64) (g : Fin 2048) : V m c main_v3 (ix2 k g)
    = ∑ q : Fin 4, a (ix2 ⟨256 + 4 * k.val + q.val, by omega⟩ g) := by
  unfold V
  after_reads_at
  rw [ha]
  exact Finset.sum_congr rfl fun q _ => congrArg (fun z => a (ix2 z g)) (Fin.ext (by
    show 256 + (k.val * 4 + q.val) = 256 + 4 * k.val + q.val; omega))

theorem v9_apply (g : Fin 2048) : V m c main_v9 (ix2 0 g)
    = m ((c : Thread nD τ).loc main_arg3) (ix1 g) := by
  unfold V
  after_reads_at

theorem v5_out (x : Fin 512) (q : Fin 256) : V m c main_v5 (ix2 x ⟨q.val, by omega⟩)
    = m ((c : Thread nD τ).loc main_arg4) (ix2 x q) := by
  unfold V
  after_reads_at
  have hq := q.isLt
  rw [dif_pos (by omega)]
  after_reads_simp

theorem v5_key (x : Fin 512) (q : Fin 64) : V m c main_v5 (ix2 x ⟨256 + q.val, by omega⟩)
    = m ((c : Thread nD τ).loc main_arg6) (ix2 x q) := by
  unfold V
  after_reads_at
  have hq := q.isLt
  rw [dif_pos (by omega)]
  after_reads_simp

theorem v5_gen (x : Fin 512) (q : Fin 64) : V m c main_v5 (ix2 x ⟨320 + q.val, by omega⟩)
    = m ((c : Thread nD τ).loc main_arg10) (ix2 x q) := by
  unfold V
  after_reads_at
  have hq := q.isLt
  rw [dif_pos (by omega), dif_neg (by omega), dif_neg (by omega), dif_pos (by omega)]
  after_reads_simp
  simp only [Nat.sub_sub, Nat.reduceAdd, Nat.add_sub_cancel_left]

theorem v5_beta (x : Fin 512) : V m c main_v5 (ix2 x 384)
    = m ((c : Thread nD τ).loc main_arg8) (ix2 x 0) := by
  unfold V
  after_reads_at
  after_reads_simp

theorem v8_out (q : Fin 256) : V m c main_v8 (ix2 0 ⟨q.val, by omega⟩)
    = m ((c : Thread nD τ).loc main_arg5) (ix1 q) := by
  unfold V
  after_reads_at
  have hq := q.isLt
  rw [dif_pos (by omega)]
  after_reads_simp

theorem v8_key (q : Fin 64) : V m c main_v8 (ix2 0 ⟨256 + q.val, by omega⟩)
    = m ((c : Thread nD τ).loc main_arg7) (ix1 q) := by
  unfold V
  after_reads_at
  have hq := q.isLt
  rw [dif_pos (by omega)]
  after_reads_simp

theorem v8_gen (q : Fin 64) : V m c main_v8 (ix2 0 ⟨320 + q.val, by omega⟩)
    = m ((c : Thread nD τ).loc main_arg11) (ix1 q) := by
  unfold V
  after_reads_at
  have hq := q.isLt
  rw [dif_pos (by omega), dif_neg (by omega), dif_neg (by omega), dif_pos (by omega)]
  after_reads_simp
  simp only [Nat.sub_sub, Nat.reduceAdd, Nat.add_sub_cancel_left]

theorem v8_beta  : V m c main_v8 (ix2 0 384)
    = m ((c : Thread nD τ).loc main_arg9) (ix1 0) := by
  unfold V
  after_reads_at
  after_reads_simp

end Cert.KernelIdeal.At

end
-- ==== Proof.Value.lean ====
/- The whole run: 512 steps of the kernel's two cores against 512 trips of the reference's loop. -/
module

public import proofs.«01_k».proof.Proof.Inv
public import proofs.«01_k».proof.Proof.InsAt

@[expose] public section

set_option maxRecDepth 16384

noncomputable section

namespace Cert.Match

open Idealize.ShloMosaic Idealize.ShloMosaic.TcCoe Idealize.SL.Sem Cert.Reals
open Cert.KernelIdeal Cert.KernelIdeal.Step Cert.KernelIdeal.Final Cert.KernelIdeal.At
open Cert.ReferenceIdeal.Step (State step b49 b53 b75 b117 b130)
open Cert.ReferenceIdeal.At (loss_apply y_apply K_v0_apply K_v1_apply K_v2_apply K_v3_apply K_cst_3_apply)

/-- The reference's states, trip by trip. -/
def it (σ0 : State Ideal) : ℕ → State Ideal
  | 0 => σ0
  | k + 1 => step k (it σ0 k)

variable (m : (ℓ : Loc nD τ sig) → Buf (Elt Ideal) ℓ) (c : Dev nD)

/-- A state of the reference holds the kernel's arguments. -/
structure Args (σ : State Ideal) : Prop where
  a0 : m ((c : Thread nD τ).loc main_arg0) = σ.main_v5_0
  a1 : m ((c : Thread nD τ).loc main_arg1) = σ.main_v5_1
  a2 : m ((c : Thread nD τ).loc main_arg2) = σ.main_v5_2
  a3 : m ((c : Thread nD τ).loc main_arg3) = σ.main_v5_3
  a4 : m ((c : Thread nD τ).loc main_arg4) = σ.main_v5_4
  a5 : m ((c : Thread nD τ).loc main_arg5) = σ.main_v5_5
  a6 : m ((c : Thread nD τ).loc main_arg6) = σ.main_v5_6
  a7 : m ((c : Thread nD τ).loc main_arg7) = σ.main_v5_7
  a8 : m ((c : Thread nD τ).loc main_arg8) = σ.main_v5_8
  a9 : m ((c : Thread nD τ).loc main_arg9) = σ.main_v5_9
  a10 : m ((c : Thread nD τ).loc main_arg10) = σ.main_v5_10
  a11 : m ((c : Thread nD τ).loc main_arg11) = σ.main_v5_11

/-- The carried values before the first trip. -/
structure Zero (σ : State Ideal) : Prop where
  h : ∀ (B : Fin 64) (d : Fin 512), σ.main_v5_13 (ix2 B d) = (0 : EReal)
  c : ∀ (B : Fin 64) (d : Fin 512), σ.main_v5_14 (ix2 B d) = (0 : EReal)
  mem : ∀ (B : Fin 64) (n : Fin 2048) (k : Fin 64), σ.main_v5_15 (ix3 B n k) = (0 : EReal)
  r : ∀ (B : Fin 64) (k : Fin 64) (q : Fin 4), σ.main_v5_16 (ix3 B k q) = (0 : EReal)
  loss : σ.main_v5_17 ix0 = (0 : EReal)

variable {m c} {σ0 : State Ideal}

theorem args_it (hA : Args m c σ0) : ∀ k, Args m c (it σ0 k)
  | 0 => hA
  | k + 1 => by
    obtain ⟨a0, a1, a2, a3, a4, a5, a6, a7, a8, a9, a10, a11⟩ := args_it hA k
    exact ⟨a0, a1, a2, a3, a4, a5, a6, a7, a8, a9, a10, a11⟩

theorem real_it (hW : RealW σ0) : ∀ k, RealW (it σ0 k)
  | 0 => hW
  | k + 1 => by
    obtain ⟨a, b, c, d, e⟩ := real_it hW k
    exact ⟨a, b, c, d, e⟩

/-- The blocks core `e` reads at its step `k` are the arguments. -/
theorem insRel {σ : State Ideal} (hA : Args m c σ) (e : Fin 2) (k : ℕ) (hk : k < 512) : InsRel e k hk (insAt m c (pt e k)) σ where
  x b d := by
    have hv := pt_val e k hk
    have he := e.isLt
    rw [blk0, hA.a0]
    refine congrArg σ.main_v5_0 ?_
    congr 1
    · exact Fin.ext (by show (pt e k).val % 512 = k; omega)
    · exact Fin.ext (by show 32 * ((pt e k).val / 512) + b.val = 32 * e.val + b.val; omega)
  wx d g := by rw [blk1, v0_apply, hA.a1]
  wr k g := by rw [blk2, v3_apply m c _ hA.a1]
  wh d g := by rw [blk3, Cert.KernelIdeal.Gen.V_main_arg2, hA.a2]
  bl g := by rw [blk4, v9_apply, hA.a3]
  wpOut x q := by rw [blk5, v5_out, hA.a4]
  wpKey x q := by rw [blk5, v5_key, hA.a6]
  wpGen x q := by rw [blk5, v5_gen, hA.a10]
  wpBeta x := by rw [blk5, v5_beta, hA.a8]
  bpOut q := by rw [blk6, v8_out, hA.a5]
  bpKey q := by rw [blk6, v8_key, hA.a7]
  bpGen q := by rw [blk6, v8_gen, hA.a11]
  bpBeta := by rw [blk6, v8_beta, hA.a9]

theorem inv_zero (hZ : Zero σ0) (e : Fin 2) : Inv e zeroSt σ0 where
  h b d := (zero_h b d).trans (hZ.h _ d).symm
  c b d := (zero_c b d).trans (hZ.c _ d).symm
  mem b k n := (zero_mem b k n).trans (hZ.mem _ n k).symm
  memb b k n := (zero_memb _ n).trans (hZ.mem _ n k).symm
  r b k q := (hZ.r _ k q).trans (zero_r b k).symm
  sq b n := by
    refine (zero_sq b n).trans (Eq.symm ?_)
    refine Finset.sum_eq_zero fun k _ => ?_
    rw [hZ.mem]; exact mul_zero (0 : EReal)
  memReal b n k := by rw [hZ.mem]; exact isR_zero
  rReal b k := by rw [zero_r]; exact isR_zero

section
variable (hA : Args m c σ0) (hW : RealW σ0) (hZ : Zero σ0)
include hA hW hZ

/-- Both programs agree before every step. -/
theorem inv_it (e : Fin 2) : ∀ k, k ≤ 512 → Inv e (carry m c e k) (it σ0 k)
  | 0, _ => inv_zero hZ e
  | k + 1, hk => inv_next (insRel (args_it hA k) e k hk) (real_it hW k) (inv_it e k (by omega))

end

/-- The squared differences of trip `t`. -/
def sqDiff (σ0 : State Ideal) (t : ℕ) (B y : Fin 64) : EReal :=
  (b53 t (it σ0 t) (ix2 B y) - b75 t (it σ0 t) (ix2 B y)) * (b53 t (it σ0 t) (ix2 B y) - b75 t (it σ0 t) (ix2 B y))

theorem sqDiff_nonneg (σ0 : State Ideal) (t : ℕ) (B y : Fin 64) : 0 ≤ sqDiff σ0 t B y := mul_self_nonneg' _

section
variable (hA : Args m c σ0) (hW : RealW σ0) (hZ : Zero σ0)
include hA hW hZ

theorem sl_it (e : Fin 2) (b : Fin 32) (y : Fin 64) :
    ∀ k, k ≤ 512 → (carry m c e k).sl (ix2 b y) = ∑ t ∈ Finset.range k, sqDiff σ0 t (row e b) y
  | 0, _ => by rw [Finset.sum_range_zero]; exact zero_sl b y
  | k + 1, hk => by
    rw [Finset.sum_range_succ, ← sl_it e b y k (by omega)]
    exact sl_eq (insRel (args_it hA k) e k hk) (real_it hW k) (inv_it hA hW hZ e k (by omega)) b y

omit hA hW in
theorem loss_it : ∀ k, (it σ0 k).main_v5_17 ix0
    = ∑ t ∈ Finset.range k, Ideal.div (∑ B : Fin 64, ∑ y : Fin 64, sqDiff σ0 t B y) (Ideal.ofBits .f32 0x45800000#32)
  | 0 => by rw [Finset.sum_range_zero]; exact hZ.loss
  | k + 1 => by
    rw [Finset.sum_range_succ, ← loss_it k]
    exact loss_apply k (it σ0 k)

omit hA hW hZ in
theorem y_it (B : Fin 64) (y : Fin 256) (t : Fin 512) :
    ∀ k, k ≤ 512 → t.val < k → (it σ0 k).main_v5_18 (ix3 t B y) = b49 t.val (it σ0 t.val) (ix2 B y)
  | 0, _, h => absurd h (Nat.not_lt_zero _)
  | k + 1, hk, h => by
    refine (y_apply k (it σ0 k) hk t B y).trans ?_
    by_cases e : t.val = k
    · rw [if_pos e, e]
    · rw [if_neg e]
      exact y_it B y t k (by omega) (by omega)

/-- The whole first result. -/
theorem y_all : G7 m c = (it σ0 512).main_v5_18 := by
  funext x
  obtain ⟨t, B, y, rfl⟩ : ∃ (t : Fin 512) (B : Fin 64) (y : Fin 256), x = ix3 t B y := ⟨x 0, x 1, x 2, eq_ix3 x⟩
  rw [y_it B y t 512 le_rfl t.isLt]
  refine (G7_apply m c (ix3 t B y)).trans ?_
  have hB := B.isLt
  have el : loc7Of (ix3 t B y) = ix3 0 ⟨B.val % 32, by omega⟩ y := by
    refine (eq_ix3 _).trans ?_
    congr 1
    · exact Fin.ext (by show t.val % 1 = 0; omega)
    · exact Fin.ext (by show y.val % 256 = y.val; omega)
  rw [el]
  refine (y_eq (insRel (args_it hA t.val) ⟨B.val / 32, by omega⟩ t.val t.isLt) (real_it hW t.val)
    (inv_it hA hW hZ ⟨B.val / 32, by omega⟩ t.val (by omega)) ⟨B.val % 32, by omega⟩ y).trans ?_
  have er : row ⟨B.val / 32, by omega⟩ ⟨B.val % 32, by omega⟩ = B := Fin.ext (by show 32 * (B.val / 32) + B.val % 32 = B.val; omega)
  rw [er]

theorem lossBlock (e : Fin 2) (p : Fin 8) (r : Fin 128) : G8 m c (ix3 e p r)
    = ∑ b : Fin 32, ∑ y : Fin 64, ∑ t ∈ Finset.range 512, sqDiff σ0 t (row e b) y := by
  refine (G8_apply m c (ix3 e p r)).trans ?_
  refine (congrArg (Cert.KernelIdeal.Gen.k0_pay2 (carry m c e 512).sl) (eq_ix3 (loc8Of (ix3 e p r)))).trans ?_
  refine (lossBlock_apply _ _ _ _).trans ?_
  exact Finset.sum_congr rfl fun b _ => Finset.sum_congr rfl fun y _ => sl_it hA hW hZ e b y 512 le_rfl

omit hA hW hZ in
theorem lossOf_apply (b : FVec Ideal S2x8x128 .f32) :
    lossOf (F := Ideal) b ix0 = Ideal.div (b (ix3 0 0 0) + b (ix3 1 0 0)) (Ideal.ofBits .f32 0x45800000#32) := by
  pointwise [lossOf]

omit hA hW hZ in
/-- All 64 rows are the 32 rows of either core. -/
theorem sum_rows (f : Fin 64 → EReal) : ∑ b : Fin 32, f (row 0 b) + ∑ b : Fin 32, f (row 1 b) = ∑ B : Fin 64, f B := by
  refine Eq.trans ?_ (Fin.sum_univ_add (a := 32) (b := 32) f).symm
  refine congrArg₂ _ (Finset.sum_congr rfl fun b _ => congrArg f (Fin.ext ?_)) (Finset.sum_congr rfl fun b _ => congrArg f (Fin.ext ?_))
  · show 32 * 0 + b.val = b.val; omega
  · show 32 * 1 + b.val = 32 + b.val; omega

omit hA hW hZ in
/-- The mean of the total is the total of the means. -/
theorem mean_total (f : ℕ → Fin 64 → Fin 64 → EReal) (hf : ∀ t B y, 0 ≤ f t B y) (s : Finset ℕ) :
    Ideal.div (∑ B : Fin 64, ∑ y : Fin 64, ∑ t ∈ s, f t B y) (Ideal.ofBits .f32 0x45800000#32)
      = ∑ t ∈ s, Ideal.div (∑ B : Fin 64, ∑ y : Fin 64, f t B y) (Ideal.ofBits .f32 0x45800000#32) := by
  rw [lit_4096]
  refine Eq.trans ?_ (div_sum_nonneg s (by norm_num) fun t => Finset.sum_nonneg fun B _ => Finset.sum_nonneg fun y _ => hf t B y).symm
  congr 1
  rw [Finset.sum_comm (s := s)]
  exact Finset.sum_congr rfl fun B _ => Finset.sum_comm

/-- The second result at its one index. -/
theorem sup_loss_apply : lossOf (F := Ideal) (G8 m c) ix0 = (it σ0 512).main_v5_17 ix0 := by
  rw [loss_it hZ 512, ← mean_total (sqDiff σ0) (sqDiff_nonneg σ0), ← sum_rows]
  refine (lossOf_apply (G8 m c)).trans ?_
  rw [lossBlock hA hW hZ, lossBlock hA hW hZ]

/-- The whole second result. -/
theorem sup_loss : lossOf (G8 m c) = (it σ0 512).main_v5_17 := by
  funext x
  obtain rfl : x = ix0 := funext fun k => k.elim0
  exact sup_loss_apply hA hW hZ

end

end Cert.Match

end
-- ==== Proof.lean ====
/- The claims about the kernel, proved. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import Idealize.ShloMosaic.Adequacy
public import Idealize.ShloMosaic.Init
public import proofs.«01_k».proof.Proof.KRun
public import proofs.«01_k».proof.Proof.RefRun
public import proofs.«01_k».proof.Proof.Pre
public import proofs.«01_k».proof.Proof.Value

@[expose] public section

noncomputable section

namespace Cert.Proof

open Idealize.ShloMosaic Idealize.ShloMosaic.TcCoe Idealize.SL.Sem Cert.Match

/-- The reference's states, trip by trip, from its initial memory. -/
def states (m' : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal := it (Cert.ReferenceIdeal.Trips.initState m' c)

/-- The reference's frame: its run read at the arguments; the program declares no semaphore, so every counter is zero. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩) (Cert.ReferenceIdeal.Trips.run_iter m ρ (states m) (fun _ => rfl) (fun _ _ => rfl))

/-- The carried values before the first trip are zero. -/
theorem zero_start (m' : (ℓ : Loc Cert.ReferenceIdeal.nD Cert.ReferenceIdeal.τ Cert.ReferenceIdeal.sig) → Buf (Elt Ideal) ℓ)
    (c : Dev Cert.ReferenceIdeal.nD) : Zero (Cert.ReferenceIdeal.Trips.initState m' c) where
  h := Cert.ReferenceIdeal.At.K_v1_apply
  c := Cert.ReferenceIdeal.At.K_v2_apply
  mem := Cert.ReferenceIdeal.At.K_v0_apply
  r := Cert.ReferenceIdeal.At.K_v3_apply
  loss := Cert.ReferenceIdeal.At.K_cst_3_apply

attribute [local instance] Cert.Pre_weights_finite.facts

/-- The weights of the memory part are real where the precondition holds. -/
theorem real_start (m : (ℓ : Loc Cert.KernelIdeal.nD Cert.KernelIdeal.τ Cert.KernelIdeal.sig) → Buf (Elt Ideal) ℓ)
    (hP : Cert.Pre_KernelIdeal_weights_finite m) (c : Dev Cert.KernelIdeal.nD) {σ : Cert.ReferenceIdeal.Step.State Ideal}
    (hA : Args m c σ) : RealW σ := by
  obtain ⟨h1, h6, h7, h8, h9⟩ := Cert.Pre_weights_finite.real_of_fn _ _ _ _ _ _ _ _ _ _ _ _ (hP c)
  refine ⟨fun p g hp => ?_, fun x q => ?_, fun q => ?_, fun x => ?_, ?_⟩
  · rw [← hA.a1]
    have e : (⟨256 + (p.val - 256), by omega⟩ : Fin 512) = p := Fin.ext (by show 256 + (p.val - 256) = p.val; omega)
    have h := h1 ⟨p.val - 256, by omega⟩ g
    rw [e] at h
    exact h
  · rw [← hA.a6]; exact h6 x q
  · rw [← hA.a7]; exact h7 q
  · rw [← hA.a8]; exact h8 x
  · rw [← hA.a9]; exact h9

/-- Both results of the ideal kernel are the reference's. -/
theorem values : Cert.algebraic_KernelIdeal_ReferenceIdeal_pre_weights_finite := by
  intro m g m' g' hP hm
  have hA : ∀ c, Args m c (Cert.ReferenceIdeal.Trips.initState m' c) := fun c => by
    obtain ⟨h0, h1, h2, h3, h4, h5, h6, h7, h8, h9, h10, h11⟩ := hm c
    exact ⟨h0.symm, h1.symm, h2.symm, h3.symm, h4.symm, h5.symm, h6.symm, h7.symm, h8.symm, h9.symm, h10.symm, h11.symm⟩
  refine ⟨Cert.KernelIdeal.Final.G7 m, fun c => Cert.KernelIdeal.Final.lossOf (Cert.KernelIdeal.Final.G8 m c), ?_, ?_⟩
  · exact (θ_run Cert.KernelIdeal.defs _ _).mono (fun r h c => ⟨(h.1 c).1, (h.1 c).2, h.2 c⟩)
      (θ_run_and (Cert.KernelIdeal.Final.run m g) (Cert.KernelIdeal.Gen.unchanged m g))
  · exact (θ_run Cert.ReferenceIdeal.defs _ _).mono (fun r h c =>
      ⟨(h c).1.trans (y_all (hA c) (real_start m hP c (hA c)) (zero_start m' c)).symm,
        (h c).2.1.trans (sup_loss (hA c) (real_start m hP c (hA c)) (zero_start m' c)).symm, (h c).2.2⟩)
      (Cert.ReferenceIdeal.Trips.run_iter m' g' (states m') (fun _ => rfl) (fun _ _ => rfl))

theorem claim : Cert.Claim :=
  ⟨Cert.Kernel.Gen.facts, Cert.KernelIdeal.Gen.facts, Cert.ReferenceIdeal.Gen.facts, Cert.Pre_weights_finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, values⟩

end Cert.Proof

end
